-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_SparseKernel [hPre_positions : Cert.Pre_positions.Facts] (m : (ℓ : Loc Cert.SparseKernel.nD Cert.SparseKernel.τ Cert.SparseKernel.sig) → Buf (Elt Bits) ℓ) : Prop :=
  ∀ c : Dev Cert.SparseKernel.nD,
    (Cert.Pre_positions.fn (F := Bits) (m ((c.tc : Thread Cert.SparseKernel.nD Cert.SparseKernel.τ).loc Cert.SparseKernel.main_arg0)) (m ((c.tc : Thread Cert.SparseKernel.nD Cert.SparseKernel.τ).loc Cert.SparseKernel.main_arg1))) = (fun _ => 1#1)

def Pre_SparseKernelIdeal [hPre_positions : Cert.Pre_positions.Facts] (m : (ℓ : Loc Cert.SparseKernelIdeal.nD Cert.SparseKernelIdeal.τ Cert.SparseKernelIdeal.sig) → Buf (Elt Ideal) ℓ) : Prop :=
  ∀ c : Dev Cert.SparseKernelIdeal.nD,
    (Cert.Pre_positions.fn (F := Ideal) (m ((c.tc : Thread Cert.SparseKernelIdeal.nD Cert.SparseKernelIdeal.τ).loc Cert.SparseKernelIdeal.main_arg0)) (m ((c.tc : Thread Cert.SparseKernelIdeal.nD Cert.SparseKernelIdeal.τ).loc Cert.SparseKernelIdeal.main_arg1))) = (fun _ => 1#1)

def Pre_SparseKernelIdeal_segments [hPre_segments : Cert.Pre_segments.Facts] (m : (ℓ : Loc Cert.SparseKernelIdeal.nD Cert.SparseKernelIdeal.τ Cert.SparseKernelIdeal.sig) → Buf (Elt Ideal) ℓ) : Prop :=
  ∀ c : Dev Cert.SparseKernelIdeal.nD,
    (Cert.Pre_segments.fn (F := Ideal) (m ((c.tc : Thread Cert.SparseKernelIdeal.nD Cert.SparseKernelIdeal.τ).loc Cert.SparseKernelIdeal.main_arg0)) (m ((c.tc : Thread Cert.SparseKernelIdeal.nD Cert.SparseKernelIdeal.τ).loc Cert.SparseKernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments [hPre_segments : Cert.Pre_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_segments [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_SparseKernel [hSparseKernel : Cert.SparseKernel.Facts] [hPre_positions : Cert.Pre_positions.Facts] : Prop :=
  ∀ (m : (ℓ : Loc Cert.SparseKernel.nD Cert.SparseKernel.τ Cert.SparseKernel.sig) → Buf (Elt Bits) ℓ) (g : Dev Cert.SparseKernel.nD → PrngReg), Pre_SparseKernel m →
    θ_run (Cert.SparseKernel.defs (F := Bits)) (Cert.SparseKernel.threads (F := Bits)) ⟨m, fun _ => 0, g⟩ (fun r => (∀ c : Dev Cert.SparseKernel.nD,
      r.2.mem ((c.tc : Thread Cert.SparseKernel.nD Cert.SparseKernel.τ).loc Cert.SparseKernel.main_arg0) = m ((c.tc : Thread Cert.SparseKernel.nD Cert.SparseKernel.τ).loc Cert.SparseKernel.main_arg0)
      ∧ r.2.mem ((c.tc : Thread Cert.SparseKernel.nD Cert.SparseKernel.τ).loc Cert.SparseKernel.main_arg1) = m ((c.tc : Thread Cert.SparseKernel.nD Cert.SparseKernel.τ).loc Cert.SparseKernel.main_arg1))
      ∧ r.2.sem = fun _ => 0)

def quiescent_SparseKernelIdeal [hSparseKernelIdeal : Cert.SparseKernelIdeal.Facts] [hPre_positions : Cert.Pre_positions.Facts] : Prop :=
  ∀ (m : (ℓ : Loc Cert.SparseKernelIdeal.nD Cert.SparseKernelIdeal.τ Cert.SparseKernelIdeal.sig) → Buf (Elt Ideal) ℓ) (g : Dev Cert.SparseKernelIdeal.nD → PrngReg), Pre_SparseKernelIdeal m →
    θ_run (Cert.SparseKernelIdeal.defs (F := Ideal)) (Cert.SparseKernelIdeal.threads (F := Ideal)) ⟨m, fun _ => 0, g⟩ (fun r => (∀ c : Dev Cert.SparseKernelIdeal.nD,
      r.2.mem ((c.tc : Thread Cert.SparseKernelIdeal.nD Cert.SparseKernelIdeal.τ).loc Cert.SparseKernelIdeal.main_arg0) = m ((c.tc : Thread Cert.SparseKernelIdeal.nD Cert.SparseKernelIdeal.τ).loc Cert.SparseKernelIdeal.main_arg0)
      ∧ r.2.mem ((c.tc : Thread Cert.SparseKernelIdeal.nD Cert.SparseKernelIdeal.τ).loc Cert.SparseKernelIdeal.main_arg1) = m ((c.tc : Thread Cert.SparseKernelIdeal.nD Cert.SparseKernelIdeal.τ).loc Cert.SparseKernelIdeal.main_arg1))
      ∧ r.2.sem = fun _ => 0)

def quiescent_SparseKernelIdeal_pre_segments [hSparseKernelIdeal : Cert.SparseKernelIdeal.Facts] [hPre_segments : Cert.Pre_segments.Facts] : Prop :=
  ∀ (m : (ℓ : Loc Cert.SparseKernelIdeal.nD Cert.SparseKernelIdeal.τ Cert.SparseKernelIdeal.sig) → Buf (Elt Ideal) ℓ) (g : Dev Cert.SparseKernelIdeal.nD → PrngReg), Pre_SparseKernelIdeal_segments m →
    θ_run (Cert.SparseKernelIdeal.defs (F := Ideal)) (Cert.SparseKernelIdeal.threads (F := Ideal)) ⟨m, fun _ => 0, g⟩ (fun r => (∀ c : Dev Cert.SparseKernelIdeal.nD,
      r.2.mem ((c.tc : Thread Cert.SparseKernelIdeal.nD Cert.SparseKernelIdeal.τ).loc Cert.SparseKernelIdeal.main_arg0) = m ((c.tc : Thread Cert.SparseKernelIdeal.nD Cert.SparseKernelIdeal.τ).loc Cert.SparseKernelIdeal.main_arg0)
      ∧ r.2.mem ((c.tc : Thread Cert.SparseKernelIdeal.nD Cert.SparseKernelIdeal.τ).loc Cert.SparseKernelIdeal.main_arg1) = m ((c.tc : Thread Cert.SparseKernelIdeal.nD Cert.SparseKernelIdeal.τ).loc Cert.SparseKernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_segments [hReferenceIdeal : Cert.ReferenceIdeal.Facts] [hPre_segments : Cert.Pre_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def preserves_SparseKernel_SparseKernelIdeal : Prop :=
  True

def algebraic_KernelIdeal_ReferenceIdeal_pre_segments [hKernelIdeal : Cert.KernelIdeal.Facts] [hReferenceIdeal : Cert.ReferenceIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_SparseKernelIdeal_ReferenceIdeal_pre_segments [hSparseKernelIdeal : Cert.SparseKernelIdeal.Facts] [hReferenceIdeal : Cert.ReferenceIdeal.Facts] [hPre_segments : Cert.Pre_segments.Facts] : Prop :=
  ∀ (m : (ℓ : Loc Cert.SparseKernelIdeal.nD Cert.SparseKernelIdeal.τ Cert.SparseKernelIdeal.sig) → Buf (Elt Ideal) ℓ) (g : Dev Cert.SparseKernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SparseKernelIdeal_segments m →
    (∀ c : Dev Cert.SparseKernelIdeal.nD,
      m' ((c.tc : Thread Cert.ReferenceIdeal.nD Cert.ReferenceIdeal.τ).loc Cert.ReferenceIdeal.main_arg0) = m ((c.tc : Thread Cert.SparseKernelIdeal.nD Cert.SparseKernelIdeal.τ).loc Cert.SparseKernelIdeal.main_arg0)
      ∧ m' ((c.tc : Thread Cert.ReferenceIdeal.nD Cert.ReferenceIdeal.τ).loc Cert.ReferenceIdeal.main_arg1) = m ((c.tc : Thread Cert.SparseKernelIdeal.nD Cert.SparseKernelIdeal.τ).loc Cert.SparseKernelIdeal.main_arg1)) →
    ∃ (v0 : (c : Dev Cert.SparseKernelIdeal.nD) → Buf (Elt Ideal) ((c.tc : Thread Cert.SparseKernelIdeal.nD Cert.SparseKernelIdeal.τ).loc Cert.SparseKernelIdeal.main_v8)),
      θ_run (Cert.SparseKernelIdeal.defs (F := Ideal)) (Cert.SparseKernelIdeal.threads (F := Ideal)) ⟨m, fun _ => 0, g⟩ (fun r => ∀ c : Dev Cert.SparseKernelIdeal.nD,
          r.2.mem ((c.tc : Thread Cert.SparseKernelIdeal.nD Cert.SparseKernelIdeal.τ).loc Cert.SparseKernelIdeal.main_v8) = v0 c
          ∧ r.2.mem ((c.tc : Thread Cert.SparseKernelIdeal.nD Cert.SparseKernelIdeal.τ).loc Cert.SparseKernelIdeal.main_arg0) = m ((c.tc : Thread Cert.SparseKernelIdeal.nD Cert.SparseKernelIdeal.τ).loc Cert.SparseKernelIdeal.main_arg0)
          ∧ r.2.mem ((c.tc : Thread Cert.SparseKernelIdeal.nD Cert.SparseKernelIdeal.τ).loc Cert.SparseKernelIdeal.main_arg1) = m ((c.tc : Thread Cert.SparseKernelIdeal.nD Cert.SparseKernelIdeal.τ).loc Cert.SparseKernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hSparseKernel : Cert.SparseKernel.Facts) (hSparseKernelIdeal : Cert.SparseKernelIdeal.Facts) (hReferenceIdeal : Cert.ReferenceIdeal.Facts) (hPre_segments : Cert.Pre_segments.Facts) (hPre_positions : Cert.Pre_positions.Facts),
    quiescent_Kernel (hKernel := hKernel)
    ∧ quiescent_KernelIdeal (hKernelIdeal := hKernelIdeal)
    ∧ quiescent_KernelIdeal_pre_segments (hKernelIdeal := hKernelIdeal) (hPre_segments := hPre_segments)
    ∧ quiescent_SparseKernel (hSparseKernel := hSparseKernel) (hPre_positions := hPre_positions)
    ∧ quiescent_SparseKernelIdeal (hSparseKernelIdeal := hSparseKernelIdeal) (hPre_positions := hPre_positions)
    ∧ quiescent_SparseKernelIdeal_pre_segments (hSparseKernelIdeal := hSparseKernelIdeal) (hPre_segments := hPre_segments)
    ∧ quiescent_ReferenceIdeal (hReferenceIdeal := hReferenceIdeal)
    ∧ quiescent_ReferenceIdeal_pre_segments (hReferenceIdeal := hReferenceIdeal) (hPre_segments := hPre_segments)
    ∧ preserves_Kernel_KernelIdeal
    ∧ preserves_SparseKernel_SparseKernelIdeal
    ∧ algebraic_KernelIdeal_ReferenceIdeal_pre_segments (hKernelIdeal := hKernelIdeal) (hReferenceIdeal := hReferenceIdeal) (hPre_segments := hPre_segments)
    ∧ algebraic_SparseKernelIdeal_ReferenceIdeal_pre_segments (hSparseKernelIdeal := hSparseKernelIdeal) (hReferenceIdeal := hReferenceIdeal) (hPre_segments := hPre_segments)
-- ==== Pre_positions.lean ====
abbrev S32768x1024 : Shape := ⟨2, ![32768, 1024]⟩
abbrev S17 : Shape := ⟨1, ![17]⟩
abbrev S_ : Shape := ⟨0, ![]⟩

class Facts : Prop where
  bcast_S_S17 : S_.BroadcastsInDim S17 (![] : Fin 0 → Fin S17.rank)

variable [Facts]

def fn {F : FTy → Type} [FloatOps F] (main_arg0 : FVec F S32768x1024 .f32) (main_arg1 : IVec S17 32) : IVec S17 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 32 := constantI S_ 32 32768#32
  let main_v2 : IVec S17 32 := broadcastInDim S17 ![] bcast_S_S17 main_c_0
  let main_v3 : IVec S17 1 := cmpi .sle main_arg1 main_v2
  let main_v4 : IVec S17 1 := andi main_v1 main_v3
  main_v4
-- ==== Pre_segments.lean ====
abbrev S32768x1024 : Shape := ⟨2, ![32768, 1024]⟩
abbrev S17 : Shape := ⟨1, ![17]⟩
abbrev S_ : Shape := ⟨0, ![]⟩
abbrev S16 : Shape := ⟨1, ![16]⟩

class Facts : Prop where
  bcast_S_S17 : S_.BroadcastsInDim S17 (![] : Fin 0 → Fin S17.rank)
  slices_S17_S16_1 : S17.Slices ![1] S16
  slices_S17_S16_0 : S17.Slices ![0] S16
  reducesTo_S17_S_d0 : S17.ReducesTo [0] S_
  h_S_ : 0 < S_.numel
  reducesTo_S16_S_d0 : S16.ReducesTo [0] S_
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S32768x1024 .f32) (main_arg1 : IVec S17 32) : IVec S_ 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 32 := constantI S_ 32 32768#32
  let main_v2 : IVec S17 32 := broadcastInDim S17 ![] bcast_S_S17 main_c_0
  let main_v3 : IVec S17 1 := cmpi .sle main_arg1 main_v2
  let main_v4 : IVec S17 1 := andi main_v1 main_v3
  let main_v5 : IVec S16 32 := (extractStridedSlice S16 ![1] · slices_S17_S16_1) main_arg1
  let main_v6 : IVec S16 32 := (extractStridedSlice S16 ![0] · slices_S17_S16_0) main_arg1
  let main_v7 : IVec S16 1 := cmpi .sgt main_v5 main_v6
  let main_c_1 : IVec S_ 1 := constantI S_ 1 1#1
  let main_v8 : IVec S_ 1 := (fun x v => Host.reduce IntOp.andi x v reducesTo_S17_S_d0 h_S_) main_v4 main_c_1
  let main_c_2 : IVec S_ 1 := constantI S_ 1 1#1
  let main_v9 : IVec S_ 1 := (fun x v => Host.reduce IntOp.andi x v reducesTo_S16_S_d0 h_S_) main_v7 main_c_2
  let main_v10 : IVec S_ 1 := andi main_v8 main_v9
  let main_v11 : FVec F S32768x1024 .f32 := Host.absf main_arg0
  let main_cst : FVec F S_ .f32 := constant S_ .f32 0x7F800000#32
  let main_v12 : FVec F S32768x1024 .f32 := broadcastInDim S32768x1024 ![] bcast_S_S32768x1024 main_cst
  let main_v13 : IVec S32768x1024 1 := cmpf .olt main_v11 main_v12
  let main_c_3 : IVec S_ 1 := constantI S_ 1 1#1
  let main_v14 : IVec S_ 1 := (fun x v => Host.reduce IntOp.andi x v reducesTo_S32768x1024_S_d0_1 h_S_) main_v13 main_c_3
  let main_v15 : IVec S_ 1 := andi main_v10 main_v14
  main_v15
-- ==== Kernel.lean ====
abbrev S32768x1024 : Shape := ⟨2, ![32768, 1024]⟩
abbrev S17 : Shape := ⟨1, ![17]⟩
abbrev S16x1024 : Shape := ⟨2, ![16, 1024]⟩
abbrev S1024x1024 : Shape := ⟨2, ![1024, 1024]⟩
abbrev S1x1024 : Shape := ⟨2, ![1, 1024]⟩
abbrev S1 : Shape := ⟨1, ![1]⟩

abbrev nBuf : Space → Nat
  | .hbm => 2
  | .vmem => 3
  | .smem => 1
  | _ => 0

abbrev bufTy : (tb : Table) → Fin (tcTables nBuf tb) → BufTy
  | .hbm, ⟨0, _⟩ => ⟨S32768x1024, .f32⟩
  | .hbm, ⟨1, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .smem, ⟨0, _⟩ => ⟨S17, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SparseKernel.lean ====
abbrev S32768x1024 : Shape := ⟨2, ![32768, 1024]⟩
abbrev S17 : Shape := ⟨1, ![17]⟩
abbrev S16 : Shape := ⟨1, ![16]⟩
abbrev S_ : Shape := ⟨0, ![]⟩
abbrev S16x2x512 : Shape := ⟨3, ![16, 2, 512]⟩
abbrev S64x512 : Shape := ⟨2, ![64, 512]⟩
abbrev S512 : Shape := ⟨1, ![512]⟩
abbrev S32 : Shape := ⟨1, ![32]⟩
abbrev S1 : Shape := ⟨1, ![1]⟩
abbrev S1x16 : Shape := ⟨2, ![1, 16]⟩
abbrev S1x1x512 : Shape := ⟨3, ![1, 1, 512]⟩
abbrev S16x1024 : Shape := ⟨2, ![16, 1024]⟩

abbrev nBuf : Table → Nat
  | .hbm => 12
  | .local .scVector .vmem => 6
  | _ => 0

abbrev bufTy : (tb : Table) → Fin (nBuf tb) → BufTy
  | .hbm, ⟨0, _⟩ => ⟨S32768x1024, .f32⟩
  | .hbm, ⟨1, _⟩ => ⟨S17, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16x2x512, .f32⟩
  | .hbm, ⟨11, _⟩ => ⟨S16x1024, .f32⟩
  | .local .scVector .vmem, ⟨0, _⟩ => ⟨S64x512, .f32⟩
  | .local .scVector .vmem, ⟨1, _⟩ => ⟨S64x512, .f32⟩
  | .local .scVector .vmem, ⟨2, _⟩ => ⟨S512, .f32⟩
  | .local .scVector .vmem, ⟨3, _⟩ => ⟨S32, .i32⟩
  | .local .scVector .vmem, ⟨4, _⟩ => ⟨S32, .i32⟩
  | .local .scVector .vmem, ⟨5, _⟩ => ⟨S32, .f32⟩
  | _, _ => ⟨S32768x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_arg0_scv : Ref sig .scVector := ⟨.hbm, 0, rfl⟩
abbrev main_v0_scv : Ref sig .scVector := ⟨.hbm, 2, rfl⟩
abbrev main_v3_scv : Ref sig .scVector := ⟨.hbm, 5, rfl⟩
abbrev main_v6_scv : Ref sig .scVector := ⟨.hbm, 9, rfl⟩
abbrev main_v7_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let v0 : Index := Scalar.indexCast arg1
  ![v0.toNat]
def k0_mult1 (v4 : BitVec 32) : BitVec 32 :=
  let c_m8_i32 : BitVec 32 := 4294967288#32
  let v15 : BitVec 32 := Scalar.andi v4 c_m8_i32
  let c0_i32_37 : BitVec 32 := 0#32
  let v226 : BitVec 32 := Scalar.addi v15 c0_i32_37
  let c32704_i32 : BitVec 32 := 32704#32
  let v227 : BitVec 32 := Scalar.minsi v226 c32704_i32
  v227
def k0_cond1 (v4 : BitVec 32) (v9 : BitVec 32) : BitVec 1 :=
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let c0_i32 : BitVec 32 := 0#32
  let v24 : BitVec 1 := Scalar.cmpi .sgt v21 c0_i32
  let v25 : BitVec 32 := Scalar.extui v24
  let c0_i32_1 : BitVec 32 := 0#32
  let v26 : BitVec 1 := Scalar.cmpi .ne v25 c0_i32_1
  v26

def k0_off2 (i : grid0.Coords) (v4 : BitVec 32) (c0_i32_37 : BitVec 32) : Fin 2 → Nat :=
  let c_m8_i32 : BitVec 32 := 4294967288#32
  let v15 : BitVec 32 := Scalar.andi v4 c_m8_i32
  let v226 : BitVec 32 := Scalar.addi v15 c0_i32_37
  let c32704_i32 : BitVec 32 := 32704#32
  let v227 : BitVec 32 := Scalar.minsi v226 c32704_i32
  let v228 : BitVec 32 := v227
  let arg0 : BitVec 32 := BitVec.ofNat 32 (i 0).val
  let c512_i32 : BitVec 32 := 512#32
  let v23 : BitVec 32 := Scalar.muli arg0 c512_i32
  ![v228.toNat, v23.toNat]
def k0_mult2 (v4 : BitVec 32) : BitVec 32 :=
  let c_m8_i32 : BitVec 32 := 4294967288#32
  let v15 : BitVec 32 := Scalar.andi v4 c_m8_i32
  let c64_i32 : BitVec 32 := 64#32
  let v231 : BitVec 32 := Scalar.addi v15 c64_i32
  let c32704_i32_38 : BitVec 32 := 32704#32
  let v232 : BitVec 32 := Scalar.minsi v231 c32704_i32_38
  v232
@[reducible] def k0_t1_loop (v4 : BitVec 32) (v9 : BitVec 32) : Scf.Loop 32 :=
  let c0_i32_33 : BitVec 32 := 0#32
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_35 : BitVec 32 := 1#32
  ⟨c0_i32_33, v63, c1_i32_35⟩
def k0_off3 (i : grid0.Coords) : Fin 2 → Nat :=
  let c0_i32_38 : BitVec 32 := 0#32
  let arg0 : BitVec 32 := BitVec.ofNat 32 (i 0).val
  let c512_i32 : BitVec 32 := 512#32
  let v23 : BitVec 32 := Scalar.muli arg0 c512_i32
  ![0, v23.toNat]
@[reducible] def k0_t2_loop : Scf.Loop 32 :=
  let c0_i32_40 : BitVec 32 := 0#32
  let c8_i32 : BitVec 32 := 8#32
  let v234 : BitVec 32 := Scalar.addi c0_i32_40 c8_i32
  let c1_i32_41 : BitVec 32 := 1#32
  ⟨c0_i32_40, v234, c1_i32_41⟩
def k0_off4 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v263 : Index := Scalar.indexCast v255
  let c0_61 : Index := 0#32
  ![v263.toNat, 0]
def k0_off5 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v269 : Index := Scalar.indexCast v255
  let c16_62 : Index := 16#32
  ![v269.toNat, 16]
def k0_off6 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v275 : Index := Scalar.indexCast v255
  let c32_63 : Index := 32#32
  ![v275.toNat, 32]
def k0_off7 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v281 : Index := Scalar.indexCast v255
  let c48_64 : Index := 48#32
  ![v281.toNat, 48]
def k0_off8 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v287 : Index := Scalar.indexCast v255
  let c64_65 : Index := 64#32
  ![v287.toNat, 64]
def k0_off9 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v293 : Index := Scalar.indexCast v255
  let c80_66 : Index := 80#32
  ![v293.toNat, 80]
def k0_off10 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v299 : Index := Scalar.indexCast v255
  let c96_67 : Index := 96#32
  ![v299.toNat, 96]
def k0_off11 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v305 : Index := Scalar.indexCast v255
  let c112_68 : Index := 112#32
  ![v305.toNat, 112]
def k0_off12 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v311 : Index := Scalar.indexCast v255
  let c128_69 : Index := 128#32
  ![v311.toNat, 128]
def k0_off13 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v317 : Index := Scalar.indexCast v255
  let c144_70 : Index := 144#32
  ![v317.toNat, 144]
def k0_off14 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v323 : Index := Scalar.indexCast v255
  let c160_71 : Index := 160#32
  ![v323.toNat, 160]
def k0_off15 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v329 : Index := Scalar.indexCast v255
  let c176_72 : Index := 176#32
  ![v329.toNat, 176]
def k0_off16 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v335 : Index := Scalar.indexCast v255
  let c192_73 : Index := 192#32
  ![v335.toNat, 192]
def k0_off17 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v341 : Index := Scalar.indexCast v255
  let c208_74 : Index := 208#32
  ![v341.toNat, 208]
def k0_off18 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v347 : Index := Scalar.indexCast v255
  let c224_75 : Index := 224#32
  ![v347.toNat, 224]
def k0_off19 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v353 : Index := Scalar.indexCast v255
  let c240_76 : Index := 240#32
  ![v353.toNat, 240]
def k0_off20 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v359 : Index := Scalar.indexCast v255
  let c256_77 : Index := 256#32
  ![v359.toNat, 256]
def k0_off21 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v365 : Index := Scalar.indexCast v255
  let c272_78 : Index := 272#32
  ![v365.toNat, 272]
def k0_off22 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v371 : Index := Scalar.indexCast v255
  let c288_79 : Index := 288#32
  ![v371.toNat, 288]
def k0_off23 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v377 : Index := Scalar.indexCast v255
  let c304_80 : Index := 304#32
  ![v377.toNat, 304]
def k0_off24 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v383 : Index := Scalar.indexCast v255
  let c320_81 : Index := 320#32
  ![v383.toNat, 320]
def k0_off25 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v389 : Index := Scalar.indexCast v255
  let c336_82 : Index := 336#32
  ![v389.toNat, 336]
def k0_off26 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v395 : Index := Scalar.indexCast v255
  let c352_83 : Index := 352#32
  ![v395.toNat, 352]
def k0_off27 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v401 : Index := Scalar.indexCast v255
  let c368_84 : Index := 368#32
  ![v401.toNat, 368]
def k0_off28 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v407 : Index := Scalar.indexCast v255
  let c384_85 : Index := 384#32
  ![v407.toNat, 384]
def k0_off29 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v413 : Index := Scalar.indexCast v255
  let c400_86 : Index := 400#32
  ![v413.toNat, 400]
def k0_off30 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v419 : Index := Scalar.indexCast v255
  let c416_87 : Index := 416#32
  ![v419.toNat, 416]
def k0_off31 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v425 : Index := Scalar.indexCast v255
  let c432_88 : Index := 432#32
  ![v425.toNat, 432]
def k0_off32 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v431 : Index := Scalar.indexCast v255
  let c448_89 : Index := 448#32
  ![v431.toNat, 448]
def k0_off33 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v437 : Index := Scalar.indexCast v255
  let c464_90 : Index := 464#32
  ![v437.toNat, 464]
def k0_off34 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v443 : Index := Scalar.indexCast v255
  let c480_91 : Index := 480#32
  ![v443.toNat, 480]
def k0_off35 (k0_t2 : Fin k0_t2_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t2
  let c8_i32_56 : BitVec 32 := 8#32
  let v254 : BitVec 32 := Scalar.muli arg48 c8_i32_56
  let v255 : BitVec 32 := Scalar.addi v254 c0_i32_57
  let v449 : Index := Scalar.indexCast v255
  let c496_92 : Index := 496#32
  ![v449.toNat, 496]
def k0_mult3 (v4 : BitVec 32) (v9 : BitVec 32) (k0_t1 : Fin (k0_t1_loop v4 v9).trips) : BitVec 32 :=
  let c_m8_i32 : BitVec 32 := 4294967288#32
  let v15 : BitVec 32 := Scalar.andi v4 c_m8_i32
  let c0_i32_33 : BitVec 32 := 0#32
  let c1_i32_35 : BitVec 32 := 1#32
  let arg15 : BitVec 32 := Scf.iv c0_i32_33 c1_i32_35 k0_t1
  let c2_i32_37 : BitVec 32 := 2#32
  let v226 : BitVec 32 := Scalar.muli arg15 c2_i32_37
  let c2_i32_56 : BitVec 32 := 2#32
  let v254 : BitVec 32 := Scalar.addi v226 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  v257
def k0_cond2 (v4 : BitVec 32) (v9 : BitVec 32) (k0_t1 : Fin (k0_t1_loop v4 v9).trips) : BitVec 1 :=
  let c0_i32_33 : BitVec 32 := 0#32
  let c1_i32_35 : BitVec 32 := 1#32
  let arg15 : BitVec 32 := Scf.iv c0_i32_33 c1_i32_35 k0_t1
  let c2_i32_37 : BitVec 32 := 2#32
  let v226 : BitVec 32 := Scalar.muli arg15 c2_i32_37
  let c2_i32_43 : BitVec 32 := 2#32
  let v236 : BitVec 32 := Scalar.addi v226 c2_i32_43
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let c2_i32 : BitVec 32 := 2#32
  let v22 : BitVec 32 := Scalar.muli v21 c2_i32
  let v237 : BitVec 1 := Scalar.cmpi .slt v236 v22
  let v238 : BitVec 32 := Scalar.extui v237
  let c0_i32_44 : BitVec 32 := 0#32
  let v239 : BitVec 1 := Scalar.cmpi .ne v238 c0_i32_44
  v239

def k0_off36 (i : grid0.Coords) (v4 : BitVec 32) (v9 : BitVec 32) (k0_t1 : Fin (k0_t1_loop v4 v9).trips) : Fin 2 → Nat :=
  let c_m8_i32 : BitVec 32 := 4294967288#32
  let v15 : BitVec 32 := Scalar.andi v4 c_m8_i32
  let c0_i32_33 : BitVec 32 := 0#32
  let c1_i32_35 : BitVec 32 := 1#32
  let arg15 : BitVec 32 := Scf.iv c0_i32_33 c1_i32_35 k0_t1
  let c2_i32_37 : BitVec 32 := 2#32
  let v226 : BitVec 32 := Scalar.muli arg15 c2_i32_37
  let c2_i32_56 : BitVec 32 := 2#32
  let v254 : BitVec 32 := Scalar.addi v226 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  let v258 : BitVec 32 := v257
  let arg0 : BitVec 32 := BitVec.ofNat 32 (i 0).val
  let c512_i32 : BitVec 32 := 512#32
  let v23 : BitVec 32 := Scalar.muli arg0 c512_i32
  ![v258.toNat, v23.toNat]
@[reducible] def k0_t3_loop : Scf.Loop 32 :=
  let c0_i32_50 : BitVec 32 := 0#32
  let c8_i32_51 : BitVec 32 := 8#32
  let v248 : BitVec 32 := Scalar.addi c0_i32_50 c8_i32_51
  let c1_i32_52 : BitVec 32 := 1#32
  ⟨c0_i32_50, v248, c1_i32_52⟩
def k0_off37 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v263 : Index := Scalar.indexCast v255
  let c0_61 : Index := 0#32
  ![v263.toNat, 0]
def k0_off38 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v269 : Index := Scalar.indexCast v255
  let c16_62 : Index := 16#32
  ![v269.toNat, 16]
def k0_off39 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v275 : Index := Scalar.indexCast v255
  let c32_63 : Index := 32#32
  ![v275.toNat, 32]
def k0_off40 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v281 : Index := Scalar.indexCast v255
  let c48_64 : Index := 48#32
  ![v281.toNat, 48]
def k0_off41 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v287 : Index := Scalar.indexCast v255
  let c64_65 : Index := 64#32
  ![v287.toNat, 64]
def k0_off42 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v293 : Index := Scalar.indexCast v255
  let c80_66 : Index := 80#32
  ![v293.toNat, 80]
def k0_off43 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v299 : Index := Scalar.indexCast v255
  let c96_67 : Index := 96#32
  ![v299.toNat, 96]
def k0_off44 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v305 : Index := Scalar.indexCast v255
  let c112_68 : Index := 112#32
  ![v305.toNat, 112]
def k0_off45 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v311 : Index := Scalar.indexCast v255
  let c128_69 : Index := 128#32
  ![v311.toNat, 128]
def k0_off46 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v317 : Index := Scalar.indexCast v255
  let c144_70 : Index := 144#32
  ![v317.toNat, 144]
def k0_off47 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v323 : Index := Scalar.indexCast v255
  let c160_71 : Index := 160#32
  ![v323.toNat, 160]
def k0_off48 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v329 : Index := Scalar.indexCast v255
  let c176_72 : Index := 176#32
  ![v329.toNat, 176]
def k0_off49 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v335 : Index := Scalar.indexCast v255
  let c192_73 : Index := 192#32
  ![v335.toNat, 192]
def k0_off50 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v341 : Index := Scalar.indexCast v255
  let c208_74 : Index := 208#32
  ![v341.toNat, 208]
def k0_off51 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v347 : Index := Scalar.indexCast v255
  let c224_75 : Index := 224#32
  ![v347.toNat, 224]
def k0_off52 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v353 : Index := Scalar.indexCast v255
  let c240_76 : Index := 240#32
  ![v353.toNat, 240]
def k0_off53 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v359 : Index := Scalar.indexCast v255
  let c256_77 : Index := 256#32
  ![v359.toNat, 256]
def k0_off54 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v365 : Index := Scalar.indexCast v255
  let c272_78 : Index := 272#32
  ![v365.toNat, 272]
def k0_off55 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v371 : Index := Scalar.indexCast v255
  let c288_79 : Index := 288#32
  ![v371.toNat, 288]
def k0_off56 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v377 : Index := Scalar.indexCast v255
  let c304_80 : Index := 304#32
  ![v377.toNat, 304]
def k0_off57 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v383 : Index := Scalar.indexCast v255
  let c320_81 : Index := 320#32
  ![v383.toNat, 320]
def k0_off58 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v389 : Index := Scalar.indexCast v255
  let c336_82 : Index := 336#32
  ![v389.toNat, 336]
def k0_off59 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v395 : Index := Scalar.indexCast v255
  let c352_83 : Index := 352#32
  ![v395.toNat, 352]
def k0_off60 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v401 : Index := Scalar.indexCast v255
  let c368_84 : Index := 368#32
  ![v401.toNat, 368]
def k0_off61 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v407 : Index := Scalar.indexCast v255
  let c384_85 : Index := 384#32
  ![v407.toNat, 384]
def k0_off62 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v413 : Index := Scalar.indexCast v255
  let c400_86 : Index := 400#32
  ![v413.toNat, 400]
def k0_off63 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v419 : Index := Scalar.indexCast v255
  let c416_87 : Index := 416#32
  ![v419.toNat, 416]
def k0_off64 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v425 : Index := Scalar.indexCast v255
  let c432_88 : Index := 432#32
  ![v425.toNat, 432]
def k0_off65 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v431 : Index := Scalar.indexCast v255
  let c448_89 : Index := 448#32
  ![v431.toNat, 448]
def k0_off66 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v437 : Index := Scalar.indexCast v255
  let c464_90 : Index := 464#32
  ![v437.toNat, 464]
def k0_off67 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v443 : Index := Scalar.indexCast v255
  let c480_91 : Index := 480#32
  ![v443.toNat, 480]
def k0_off68 (k0_t3 : Fin k0_t3_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t3
  let c8_i32_56 : BitVec 32 := 8#32
  let v254 : BitVec 32 := Scalar.muli arg48 c8_i32_56
  let v255 : BitVec 32 := Scalar.addi v254 c0_i32_57
  let v449 : Index := Scalar.indexCast v255
  let c496_92 : Index := 496#32
  ![v449.toNat, 496]
def k0_mult4 (v4 : BitVec 32) (v9 : BitVec 32) (k0_t1 : Fin (k0_t1_loop v4 v9).trips) : BitVec 32 :=
  let c_m8_i32 : BitVec 32 := 4294967288#32
  let v15 : BitVec 32 := Scalar.andi v4 c_m8_i32
  let c0_i32_33 : BitVec 32 := 0#32
  let c1_i32_35 : BitVec 32 := 1#32
  let arg15 : BitVec 32 := Scf.iv c0_i32_33 c1_i32_35 k0_t1
  let c2_i32_37 : BitVec 32 := 2#32
  let v226 : BitVec 32 := Scalar.muli arg15 c2_i32_37
  let c1_i32_45 : BitVec 32 := 1#32
  let v240 : BitVec 32 := Scalar.addi v226 c1_i32_45
  let c2_i32_56 : BitVec 32 := 2#32
  let v254 : BitVec 32 := Scalar.addi v240 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  v257
def k0_cond3 (v4 : BitVec 32) (v9 : BitVec 32) (k0_t1 : Fin (k0_t1_loop v4 v9).trips) : BitVec 1 :=
  let c0_i32_33 : BitVec 32 := 0#32
  let c1_i32_35 : BitVec 32 := 1#32
  let arg15 : BitVec 32 := Scf.iv c0_i32_33 c1_i32_35 k0_t1
  let c2_i32_37 : BitVec 32 := 2#32
  let v226 : BitVec 32 := Scalar.muli arg15 c2_i32_37
  let c1_i32_45 : BitVec 32 := 1#32
  let v240 : BitVec 32 := Scalar.addi v226 c1_i32_45
  let c2_i32_54 : BitVec 32 := 2#32
  let v250 : BitVec 32 := Scalar.addi v240 c2_i32_54
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let c2_i32 : BitVec 32 := 2#32
  let v22 : BitVec 32 := Scalar.muli v21 c2_i32
  let v251 : BitVec 1 := Scalar.cmpi .slt v250 v22
  let v252 : BitVec 32 := Scalar.extui v251
  let c0_i32_55 : BitVec 32 := 0#32
  let v253 : BitVec 1 := Scalar.cmpi .ne v252 c0_i32_55
  v253

def k0_off69 (i : grid0.Coords) (v4 : BitVec 32) (v9 : BitVec 32) (k0_t1 : Fin (k0_t1_loop v4 v9).trips) : Fin 2 → Nat :=
  let c_m8_i32 : BitVec 32 := 4294967288#32
  let v15 : BitVec 32 := Scalar.andi v4 c_m8_i32
  let c0_i32_33 : BitVec 32 := 0#32
  let c1_i32_35 : BitVec 32 := 1#32
  let arg15 : BitVec 32 := Scf.iv c0_i32_33 c1_i32_35 k0_t1
  let c2_i32_37 : BitVec 32 := 2#32
  let v226 : BitVec 32 := Scalar.muli arg15 c2_i32_37
  let c1_i32_45 : BitVec 32 := 1#32
  let v240 : BitVec 32 := Scalar.addi v226 c1_i32_45
  let c2_i32_56 : BitVec 32 := 2#32
  let v254 : BitVec 32 := Scalar.addi v240 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  let v258 : BitVec 32 := v257
  let arg0 : BitVec 32 := BitVec.ofNat 32 (i 0).val
  let c512_i32 : BitVec 32 := 512#32
  let v23 : BitVec 32 := Scalar.muli arg0 c512_i32
  ![v258.toNat, v23.toNat]
@[reducible] def k0_t4_loop (v4 : BitVec 32) (v9 : BitVec 32) : Scf.Loop 32 :=
  let c0_i32_33 : BitVec 32 := 0#32
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let v60 : BitVec 32 := Scalar.addi c0_i32_33 v59
  let c1_i32_36 : BitVec 32 := 1#32
  ⟨v63, v60, c1_i32_36⟩
def k0_off70 (i : grid0.Coords) : Fin 2 → Nat :=
  let c0_i32_38 : BitVec 32 := 0#32
  let arg0 : BitVec 32 := BitVec.ofNat 32 (i 0).val
  let c512_i32 : BitVec 32 := 512#32
  let v23 : BitVec 32 := Scalar.muli arg0 c512_i32
  ![0, v23.toNat]
@[reducible] def k0_t5_loop : Scf.Loop 32 :=
  let c0_i32_40 : BitVec 32 := 0#32
  let c8_i32 : BitVec 32 := 8#32
  let v234 : BitVec 32 := Scalar.addi c0_i32_40 c8_i32
  let c1_i32_41 : BitVec 32 := 1#32
  ⟨c0_i32_40, v234, c1_i32_41⟩
def k0_off71 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v263 : Index := Scalar.indexCast v255
  let c0_61 : Index := 0#32
  ![v263.toNat, 0]
def k0_off72 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v269 : Index := Scalar.indexCast v255
  let c16_62 : Index := 16#32
  ![v269.toNat, 16]
def k0_off73 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v275 : Index := Scalar.indexCast v255
  let c32_63 : Index := 32#32
  ![v275.toNat, 32]
def k0_off74 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v281 : Index := Scalar.indexCast v255
  let c48_64 : Index := 48#32
  ![v281.toNat, 48]
def k0_off75 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v287 : Index := Scalar.indexCast v255
  let c64_65 : Index := 64#32
  ![v287.toNat, 64]
def k0_off76 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v293 : Index := Scalar.indexCast v255
  let c80_66 : Index := 80#32
  ![v293.toNat, 80]
def k0_off77 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v299 : Index := Scalar.indexCast v255
  let c96_67 : Index := 96#32
  ![v299.toNat, 96]
def k0_off78 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v305 : Index := Scalar.indexCast v255
  let c112_68 : Index := 112#32
  ![v305.toNat, 112]
def k0_off79 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v311 : Index := Scalar.indexCast v255
  let c128_69 : Index := 128#32
  ![v311.toNat, 128]
def k0_off80 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v317 : Index := Scalar.indexCast v255
  let c144_70 : Index := 144#32
  ![v317.toNat, 144]
def k0_off81 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v323 : Index := Scalar.indexCast v255
  let c160_71 : Index := 160#32
  ![v323.toNat, 160]
def k0_off82 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v329 : Index := Scalar.indexCast v255
  let c176_72 : Index := 176#32
  ![v329.toNat, 176]
def k0_off83 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v335 : Index := Scalar.indexCast v255
  let c192_73 : Index := 192#32
  ![v335.toNat, 192]
def k0_off84 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v341 : Index := Scalar.indexCast v255
  let c208_74 : Index := 208#32
  ![v341.toNat, 208]
def k0_off85 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v347 : Index := Scalar.indexCast v255
  let c224_75 : Index := 224#32
  ![v347.toNat, 224]
def k0_off86 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v353 : Index := Scalar.indexCast v255
  let c240_76 : Index := 240#32
  ![v353.toNat, 240]
def k0_off87 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v359 : Index := Scalar.indexCast v255
  let c256_77 : Index := 256#32
  ![v359.toNat, 256]
def k0_off88 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v365 : Index := Scalar.indexCast v255
  let c272_78 : Index := 272#32
  ![v365.toNat, 272]
def k0_off89 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v371 : Index := Scalar.indexCast v255
  let c288_79 : Index := 288#32
  ![v371.toNat, 288]
def k0_off90 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v377 : Index := Scalar.indexCast v255
  let c304_80 : Index := 304#32
  ![v377.toNat, 304]
def k0_off91 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v383 : Index := Scalar.indexCast v255
  let c320_81 : Index := 320#32
  ![v383.toNat, 320]
def k0_off92 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v389 : Index := Scalar.indexCast v255
  let c336_82 : Index := 336#32
  ![v389.toNat, 336]
def k0_off93 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v395 : Index := Scalar.indexCast v255
  let c352_83 : Index := 352#32
  ![v395.toNat, 352]
def k0_off94 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v401 : Index := Scalar.indexCast v255
  let c368_84 : Index := 368#32
  ![v401.toNat, 368]
def k0_off95 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v407 : Index := Scalar.indexCast v255
  let c384_85 : Index := 384#32
  ![v407.toNat, 384]
def k0_off96 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v413 : Index := Scalar.indexCast v255
  let c400_86 : Index := 400#32
  ![v413.toNat, 400]
def k0_off97 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v419 : Index := Scalar.indexCast v255
  let c416_87 : Index := 416#32
  ![v419.toNat, 416]
def k0_off98 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v425 : Index := Scalar.indexCast v255
  let c432_88 : Index := 432#32
  ![v425.toNat, 432]
def k0_off99 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v431 : Index := Scalar.indexCast v255
  let c448_89 : Index := 448#32
  ![v431.toNat, 448]
def k0_off100 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v437 : Index := Scalar.indexCast v255
  let c464_90 : Index := 464#32
  ![v437.toNat, 464]
def k0_off101 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v443 : Index := Scalar.indexCast v255
  let c480_91 : Index := 480#32
  ![v443.toNat, 480]
def k0_off102 (k0_t5 : Fin k0_t5_loop.trips) (c0_i32_57 : BitVec 32) : Fin 2 → Nat :=
  let c0_i32_40 : BitVec 32 := 0#32
  let c1_i32_41 : BitVec 32 := 1#32
  let arg48 : BitVec 32 := Scf.iv c0_i32_40 c1_i32_41 k0_t5
  let c8_i32_56 : BitVec 32 := 8#32
  let v254 : BitVec 32 := Scalar.muli arg48 c8_i32_56
  let v255 : BitVec 32 := Scalar.addi v254 c0_i32_57
  let v449 : Index := Scalar.indexCast v255
  let c496_92 : Index := 496#32
  ![v449.toNat, 496]
def k0_mult5 (v4 : BitVec 32) (v9 : BitVec 32) (k0_t4 : Fin (k0_t4_loop v4 v9).trips) : BitVec 32 :=
  let c_m8_i32 : BitVec 32 := 4294967288#32
  let v15 : BitVec 32 := Scalar.andi v4 c_m8_i32
  let c0_i32_33 : BitVec 32 := 0#32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_36 : BitVec 32 := 1#32
  let arg15 : BitVec 32 := Scf.iv v63 c1_i32_36 k0_t4
  let c2_i32_37 : BitVec 32 := 2#32
  let v226 : BitVec 32 := Scalar.muli arg15 c2_i32_37
  let c2_i32_56 : BitVec 32 := 2#32
  let v254 : BitVec 32 := Scalar.addi v226 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  v257
def k0_cond4 (v4 : BitVec 32) (v9 : BitVec 32) (k0_t4 : Fin (k0_t4_loop v4 v9).trips) : BitVec 1 :=
  let c0_i32_33 : BitVec 32 := 0#32
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_36 : BitVec 32 := 1#32
  let arg15 : BitVec 32 := Scf.iv v63 c1_i32_36 k0_t4
  let c2_i32_37 : BitVec 32 := 2#32
  let v226 : BitVec 32 := Scalar.muli arg15 c2_i32_37
  let c2_i32_43 : BitVec 32 := 2#32
  let v236 : BitVec 32 := Scalar.addi v226 c2_i32_43
  let c2_i32 : BitVec 32 := 2#32
  let v22 : BitVec 32 := Scalar.muli v21 c2_i32
  let v237 : BitVec 1 := Scalar.cmpi .slt v236 v22
  let v238 : BitVec 32 := Scalar.extui v237
  let c0_i32_44 : BitVec 32 := 0#32
  let v239 : BitVec 1 := Scalar.cmpi .ne v238 c0_i32_44
  v239

def k0_off103 (i : grid0.Coords) (v4 : BitVec 32) (v9 : BitVec 32) (k0_t4 : Fin (k0_t4_loop v4 v9).trips) : Fin 2 → Nat :=
  let c_m8_i32 : BitVec 32 := 4294967288#32
  let v15 : BitVec 32 := Scalar.andi v4 c_m8_i32
  let c0_i32_33 : BitVec 32 := 0#32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_36 : BitVec 32 := 1#32
  let arg15 : BitVec 32 := Scf.iv v63 c1_i32_36 k0_t4
  let c2_i32_37 : BitVec 32 := 2#32
  let v226 : BitVec 32 := Scalar.muli arg15 c2_i32_37
  let c2_i32_56 : BitVec 32 := 2#32
  let v254 : BitVec 32 := Scalar.addi v226 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  let v258 : BitVec 32 := v257
  let arg0 : BitVec 32 := BitVec.ofNat 32 (i 0).val
  let c512_i32 : BitVec 32 := 512#32
  let v23 : BitVec 32 := Scalar.muli arg0 c512_i32
  ![v258.toNat, v23.toNat]
@[reducible] def k0_t6_loop : Scf.Loop 32 :=
  let c0_i32_50 : BitVec 32 := 0#32
  let c8_i32_51 : BitVec 32 := 8#32
  let v248 : BitVec 32 := Scalar.addi c0_i32_50 c8_i32_51
  let c1_i32_52 : BitVec 32 := 1#32
  ⟨c0_i32_50, v248, c1_i32_52⟩
def k0_off104 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v263 : Index := Scalar.indexCast v255
  let c0_61 : Index := 0#32
  ![v263.toNat, 0]
def k0_off105 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v269 : Index := Scalar.indexCast v255
  let c16_62 : Index := 16#32
  ![v269.toNat, 16]
def k0_off106 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v275 : Index := Scalar.indexCast v255
  let c32_63 : Index := 32#32
  ![v275.toNat, 32]
def k0_off107 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v281 : Index := Scalar.indexCast v255
  let c48_64 : Index := 48#32
  ![v281.toNat, 48]
def k0_off108 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v287 : Index := Scalar.indexCast v255
  let c64_65 : Index := 64#32
  ![v287.toNat, 64]
def k0_off109 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v293 : Index := Scalar.indexCast v255
  let c80_66 : Index := 80#32
  ![v293.toNat, 80]
def k0_off110 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v299 : Index := Scalar.indexCast v255
  let c96_67 : Index := 96#32
  ![v299.toNat, 96]
def k0_off111 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v305 : Index := Scalar.indexCast v255
  let c112_68 : Index := 112#32
  ![v305.toNat, 112]
def k0_off112 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v311 : Index := Scalar.indexCast v255
  let c128_69 : Index := 128#32
  ![v311.toNat, 128]
def k0_off113 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v317 : Index := Scalar.indexCast v255
  let c144_70 : Index := 144#32
  ![v317.toNat, 144]
def k0_off114 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v323 : Index := Scalar.indexCast v255
  let c160_71 : Index := 160#32
  ![v323.toNat, 160]
def k0_off115 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v329 : Index := Scalar.indexCast v255
  let c176_72 : Index := 176#32
  ![v329.toNat, 176]
def k0_off116 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v335 : Index := Scalar.indexCast v255
  let c192_73 : Index := 192#32
  ![v335.toNat, 192]
def k0_off117 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v341 : Index := Scalar.indexCast v255
  let c208_74 : Index := 208#32
  ![v341.toNat, 208]
def k0_off118 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v347 : Index := Scalar.indexCast v255
  let c224_75 : Index := 224#32
  ![v347.toNat, 224]
def k0_off119 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v353 : Index := Scalar.indexCast v255
  let c240_76 : Index := 240#32
  ![v353.toNat, 240]
def k0_off120 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v359 : Index := Scalar.indexCast v255
  let c256_77 : Index := 256#32
  ![v359.toNat, 256]
def k0_off121 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v365 : Index := Scalar.indexCast v255
  let c272_78 : Index := 272#32
  ![v365.toNat, 272]
def k0_off122 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v371 : Index := Scalar.indexCast v255
  let c288_79 : Index := 288#32
  ![v371.toNat, 288]
def k0_off123 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v377 : Index := Scalar.indexCast v255
  let c304_80 : Index := 304#32
  ![v377.toNat, 304]
def k0_off124 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v383 : Index := Scalar.indexCast v255
  let c320_81 : Index := 320#32
  ![v383.toNat, 320]
def k0_off125 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v389 : Index := Scalar.indexCast v255
  let c336_82 : Index := 336#32
  ![v389.toNat, 336]
def k0_off126 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v395 : Index := Scalar.indexCast v255
  let c352_83 : Index := 352#32
  ![v395.toNat, 352]
def k0_off127 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v401 : Index := Scalar.indexCast v255
  let c368_84 : Index := 368#32
  ![v401.toNat, 368]
def k0_off128 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v407 : Index := Scalar.indexCast v255
  let c384_85 : Index := 384#32
  ![v407.toNat, 384]
def k0_off129 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v413 : Index := Scalar.indexCast v255
  let c400_86 : Index := 400#32
  ![v413.toNat, 400]
def k0_off130 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v419 : Index := Scalar.indexCast v255
  let c416_87 : Index := 416#32
  ![v419.toNat, 416]
def k0_off131 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v425 : Index := Scalar.indexCast v255
  let c432_88 : Index := 432#32
  ![v425.toNat, 432]
def k0_off132 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v431 : Index := Scalar.indexCast v255
  let c448_89 : Index := 448#32
  ![v431.toNat, 448]
def k0_off133 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v437 : Index := Scalar.indexCast v255
  let c464_90 : Index := 464#32
  ![v437.toNat, 464]
def k0_off134 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v443 : Index := Scalar.indexCast v255
  let c480_91 : Index := 480#32
  ![v443.toNat, 480]
def k0_off135 (k0_t6 : Fin k0_t6_loop.trips) (c0_i32_57 : BitVec 32) : Fin 2 → Nat :=
  let c0_i32_50 : BitVec 32 := 0#32
  let c1_i32_52 : BitVec 32 := 1#32
  let arg48 : BitVec 32 := Scf.iv c0_i32_50 c1_i32_52 k0_t6
  let c8_i32_56 : BitVec 32 := 8#32
  let v254 : BitVec 32 := Scalar.muli arg48 c8_i32_56
  let v255 : BitVec 32 := Scalar.addi v254 c0_i32_57
  let v449 : Index := Scalar.indexCast v255
  let c496_92 : Index := 496#32
  ![v449.toNat, 496]
def k0_mult6 (v4 : BitVec 32) (v9 : BitVec 32) (k0_t4 : Fin (k0_t4_loop v4 v9).trips) : BitVec 32 :=
  let c_m8_i32 : BitVec 32 := 4294967288#32
  let v15 : BitVec 32 := Scalar.andi v4 c_m8_i32
  let c0_i32_33 : BitVec 32 := 0#32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_36 : BitVec 32 := 1#32
  let arg15 : BitVec 32 := Scf.iv v63 c1_i32_36 k0_t4
  let c2_i32_37 : BitVec 32 := 2#32
  let v226 : BitVec 32 := Scalar.muli arg15 c2_i32_37
  let c1_i32_45 : BitVec 32 := 1#32
  let v240 : BitVec 32 := Scalar.addi v226 c1_i32_45
  let c2_i32_56 : BitVec 32 := 2#32
  let v254 : BitVec 32 := Scalar.addi v240 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  v257
def k0_cond5 (v4 : BitVec 32) (v9 : BitVec 32) (k0_t4 : Fin (k0_t4_loop v4 v9).trips) : BitVec 1 :=
  let c0_i32_33 : BitVec 32 := 0#32
  let c_m8_i32 : BitVec 32 := 4294967288#32
  let v15 : BitVec 32 := Scalar.andi v4 c_m8_i32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_36 : BitVec 32 := 1#32
  let arg15 : BitVec 32 := Scf.iv v63 c1_i32_36 k0_t4
  let c2_i32_37 : BitVec 32 := 2#32
  let v226 : BitVec 32 := Scalar.muli arg15 c2_i32_37
  let c1_i32_45 : BitVec 32 := 1#32
  let v240 : BitVec 32 := Scalar.addi v226 c1_i32_45
  let c2_i32_54 : BitVec 32 := 2#32
  let v250 : BitVec 32 := Scalar.addi v240 c2_i32_54
  let c2_i32 : BitVec 32 := 2#32
  let v22 : BitVec 32 := Scalar.muli v21 c2_i32
  let v251 : BitVec 1 := Scalar.cmpi .slt v250 v22
  let v252 : BitVec 32 := Scalar.extui v251
  let c0_i32_55 : BitVec 32 := 0#32
  let v253 : BitVec 1 := Scalar.cmpi .ne v252 c0_i32_55
  v253

def k0_off136 (i : grid0.Coords) (v4 : BitVec 32) (v9 : BitVec 32) (k0_t4 : Fin (k0_t4_loop v4 v9).trips) : Fin 2 → Nat :=
  let c_m8_i32 : BitVec 32 := 4294967288#32
  let v15 : BitVec 32 := Scalar.andi v4 c_m8_i32
  let c0_i32_33 : BitVec 32 := 0#32
  let v16 : BitVec 32 := Scalar.subi v4 v15
  let v17 : BitVec 32 := Scalar.addi v9 v16
  let c63_i32 : BitVec 32 := 63#32
  let v18 : BitVec 32 := Scalar.addi v17 c63_i32
  let c6_i32 : BitVec 32 := 6#32
  let v19 : BitVec 32 := Scalar.shrsi v18 c6_i32
  let c1_i32 : BitVec 32 := 1#32
  let v20 : BitVec 32 := Scalar.addi v19 c1_i32
  let c1_i32_0 : BitVec 32 := 1#32
  let v21 : BitVec 32 := Scalar.shrsi v20 c1_i32_0
  let v59 : BitVec 32 := Scalar.subi v21 c0_i32_33
  let c1_i32_34 : BitVec 32 := 1#32
  let v61 : BitVec 32 := Scalar.divsi v59 c1_i32_34
  let v62 : BitVec 32 := Scalar.muli v61 c1_i32_34
  let v63 : BitVec 32 := Scalar.addi c0_i32_33 v62
  let c1_i32_36 : BitVec 32 := 1#32
  let arg15 : BitVec 32 := Scf.iv v63 c1_i32_36 k0_t4
  let c2_i32_37 : BitVec 32 := 2#32
  let v226 : BitVec 32 := Scalar.muli arg15 c2_i32_37
  let c1_i32_45 : BitVec 32 := 1#32
  let v240 : BitVec 32 := Scalar.addi v226 c1_i32_45
  let c2_i32_56 : BitVec 32 := 2#32
  let v254 : BitVec 32 := Scalar.addi v240 c2_i32_56
  let c64_i32_57 : BitVec 32 := 64#32
  let v255 : BitVec 32 := Scalar.muli v254 c64_i32_57
  let v256 : BitVec 32 := Scalar.addi v15 v255
  let c32704_i32_58 : BitVec 32 := 32704#32
  let v257 : BitVec 32 := Scalar.minsi v256 c32704_i32_58
  let v258 : BitVec 32 := v257
  let arg0 : BitVec 32 := BitVec.ofNat 32 (i 0).val
  let c512_i32 : BitVec 32 := 512#32
  let v23 : BitVec 32 := Scalar.muli arg0 c512_i32
  ![v258.toNat, v23.toNat]

def k0_chk1 (i : grid0.Coords) (v4 : BitVec 32) (v9 : BitVec 32) : Prop :=
  (∀ (k0_h1 : k0_cond1 v4 v9 = 1#1), 8 ∣ (k0_mult1 v4).toNat) ∧
  (∀ (k0_h1 : k0_cond1 v4 v9 = 1#1), ∀ (r : Fin 2), ∀ a, (k0_off2 i v4 (BitVec.ofNat 32 (64 * r.val))) a + S64x512.size a ≤ S32768x1024.size a) ∧
  (∀ (k0_h1 : k0_cond1 v4 v9 = 1#1), 8 ∣ (k0_mult2 v4).toNat) ∧
  ((k0_t1_loop v4 v9).OK) ∧
  (∀ k0_t1 : Fin (k0_t1_loop v4 v9).trips, ∀ (k0_h2 : k0_cond2 v4 v9 k0_t1 = 1#1), 8 ∣ (k0_mult3 v4 v9 k0_t1).toNat) ∧
  (∀ k0_t1 : Fin (k0_t1_loop v4 v9).trips, ∀ (k0_h2 : k0_cond2 v4 v9 k0_t1 = 1#1), ∀ a, (k0_off36 i v4 v9 k0_t1) a + S64x512.size a ≤ S32768x1024.size a) ∧
  (∀ k0_t1 : Fin (k0_t1_loop v4 v9).trips, ∀ (k0_h3 : k0_cond3 v4 v9 k0_t1 = 1#1), 8 ∣ (k0_mult4 v4 v9 k0_t1).toNat) ∧
  (∀ k0_t1 : Fin (k0_t1_loop v4 v9).trips, ∀ (k0_h3 : k0_cond3 v4 v9 k0_t1 = 1#1), ∀ a, (k0_off69 i v4 v9 k0_t1) a + S64x512.size a ≤ S32768x1024.size a) ∧
  ((k0_t4_loop v4 v9).OK) ∧
  (∀ k0_t4 : Fin (k0_t4_loop v4 v9).trips, ∀ (k0_h4 : k0_cond4 v4 v9 k0_t4 = 1#1), 8 ∣ (k0_mult5 v4 v9 k0_t4).toNat) ∧
  (∀ k0_t4 : Fin (k0_t4_loop v4 v9).trips, ∀ (k0_h4 : k0_cond4 v4 v9 k0_t4 = 1#1), ∀ a, (k0_off103 i v4 v9 k0_t4) a + S64x512.size a ≤ S32768x1024.size a) ∧
  (∀ k0_t4 : Fin (k0_t4_loop v4 v9).trips, ∀ (k0_h5 : k0_cond5 v4 v9 k0_t4 = 1#1), 8 ∣ (k0_mult6 v4 v9 k0_t4).toNat) ∧
  (∀ k0_t4 : Fin (k0_t4_loop v4 v9).trips, ∀ (k0_h5 : k0_cond5 v4 v9 k0_t4 = 1#1), ∀ a, (k0_off136 i v4 v9 k0_t4) a + S64x512.size a ≤ S32768x1024.size a)
theorem k0_mult1_dvd : ∀ (i : grid0.Coords) (v4 : BitVec 32) (v9 : BitVec 32) (k0_hw1 : k0_chk1 i v4 v9), ∀ (k0_h1 : k0_cond1 v4 v9 = 1#1), 8 ∣ (k0_mult1 v4).toNat := fun i v4 v9 k0_hw1 k0_h1 => k0_hw1.1 k0_h1
theorem k0_off2_inb : ∀ (i : grid0.Coords) (v4 : BitVec 32) (v9 : BitVec 32) (k0_hw1 : k0_chk1 i v4 v9), ∀ (k0_h1 : k0_cond1 v4 v9 = 1#1), ∀ (r : Fin 2), ∀ a, (k0_off2 i v4 (BitVec.ofNat 32 (64 * r.val))) a + S64x512.size a ≤ S32768x1024.size a := fun i v4 v9 k0_hw1 k0_h1 r => k0_hw1.2.1 k0_h1 r
theorem k0_mult2_dvd : ∀ (i : grid0.Coords) (v4 : BitVec 32) (v9 : BitVec 32) (k0_hw1 : k0_chk1 i v4 v9), ∀ (k0_h1 : k0_cond1 v4 v9 = 1#1), 8 ∣ (k0_mult2 v4).toNat := fun i v4 v9 k0_hw1 k0_h1 => k0_hw1.2.2.1 k0_h1
theorem k0_t1_ok : ∀ (i : grid0.Coords) (v4 : BitVec 32) (v9 : BitVec 32) (k0_hw1 : k0_chk1 i v4 v9), (k0_t1_loop v4 v9).OK := fun i v4 v9 k0_hw1 => k0_hw1.2.2.2.1
theorem k0_mult3_dvd : ∀ (i : grid0.Coords) (v4 : BitVec 32) (v9 : BitVec 32) (k0_hw1 : k0_chk1 i v4 v9) (k0_t1 : Fin (k0_t1_loop v4 v9).trips), ∀ (k0_h2 : k0_cond2 v4 v9 k0_t1 = 1#1), 8 ∣ (k0_mult3 v4 v9 k0_t1).toNat := fun i v4 v9 k0_hw1 k0_t1 k0_h2 => k0_hw1.2.2.2.2.1 k0_t1 k0_h2
theorem k0_off36_inb : ∀ (i : grid0.Coords) (v4 : BitVec 32) (v9 : BitVec 32) (k0_hw1 : k0_chk1 i v4 v9) (k0_t1 : Fin (k0_t1_loop v4 v9).trips), ∀ (k0_h2 : k0_cond2 v4 v9 k0_t1 = 1#1), ∀ a, (k0_off36 i v4 v9 k0_t1) a + S64x512.size a ≤ S32768x1024.size a := fun i v4 v9 k0_hw1 k0_t1 k0_h2 => k0_hw1.2.2.2.2.2.1 k0_t1 k0_h2
theorem k0_mult4_dvd : ∀ (i : grid0.Coords) (v4 : BitVec 32) (v9 : BitVec 32) (k0_hw1 : k0_chk1 i v4 v9) (k0_t1 : Fin (k0_t1_loop v4 v9).trips), ∀ (k0_h3 : k0_cond3 v4 v9 k0_t1 = 1#1), 8 ∣ (k0_mult4 v4 v9 k0_t1).toNat := fun i v4 v9 k0_hw1 k0_t1 k0_h3 => k0_hw1.2.2.2.2.2.2.1 k0_t1 k0_h3
theorem k0_off69_inb : ∀ (i : grid0.Coords) (v4 : BitVec 32) (v9 : BitVec 32) (k0_hw1 : k0_chk1 i v4 v9) (k0_t1 : Fin (k0_t1_loop v4 v9).trips), ∀ (k0_h3 : k0_cond3 v4 v9 k0_t1 = 1#1), ∀ a, (k0_off69 i v4 v9 k0_t1) a + S64x512.size a ≤ S32768x1024.size a := fun i v4 v9 k0_hw1 k0_t1 k0_h3 => k0_hw1.2.2.2.2.2.2.2.1 k0_t1 k0_h3
theorem k0_t4_ok : ∀ (i : grid0.Coords) (v4 : BitVec 32) (v9 : BitVec 32) (k0_hw1 : k0_chk1 i v4 v9), (k0_t4_loop v4 v9).OK := fun i v4 v9 k0_hw1 => k0_hw1.2.2.2.2.2.2.2.2.1
theorem k0_mult5_dvd : ∀ (i : grid0.Coords) (v4 : BitVec 32) (v9 : BitVec 32) (k0_hw1 : k0_chk1 i v4 v9) (k0_t4 : Fin (k0_t4_loop v4 v9).trips), ∀ (k0_h4 : k0_cond4 v4 v9 k0_t4 = 1#1), 8 ∣ (k0_mult5 v4 v9 k0_t4).toNat := fun i v4 v9 k0_hw1 k0_t4 k0_h4 => k0_hw1.2.2.2.2.2.2.2.2.2.1 k0_t4 k0_h4
theorem k0_off103_inb : ∀ (i : grid0.Coords) (v4 : BitVec 32) (v9 : BitVec 32) (k0_hw1 : k0_chk1 i v4 v9) (k0_t4 : Fin (k0_t4_loop v4 v9).trips), ∀ (k0_h4 : k0_cond4 v4 v9 k0_t4 = 1#1), ∀ a, (k0_off103 i v4 v9 k0_t4) a + S64x512.size a ≤ S32768x1024.size a := fun i v4 v9 k0_hw1 k0_t4 k0_h4 => k0_hw1.2.2.2.2.2.2.2.2.2.2.1 k0_t4 k0_h4
theorem k0_mult6_dvd : ∀ (i : grid0.Coords) (v4 : BitVec 32) (v9 : BitVec 32) (k0_hw1 : k0_chk1 i v4 v9) (k0_t4 : Fin (k0_t4_loop v4 v9).trips), ∀ (k0_h5 : k0_cond5 v4 v9 k0_t4 = 1#1), 8 ∣ (k0_mult6 v4 v9 k0_t4).toNat := fun i v4 v9 k0_hw1 k0_t4 k0_h5 => k0_hw1.2.2.2.2.2.2.2.2.2.2.2.1 k0_t4 k0_h5
theorem k0_off136_inb : ∀ (i : grid0.Coords) (v4 : BitVec 32) (v9 : BitVec 32) (k0_hw1 : k0_chk1 i v4 v9) (k0_t4 : Fin (k0_t4_loop v4 v9).trips), ∀ (k0_h5 : k0_cond5 v4 v9 k0_t4 = 1#1), ∀ a, (k0_off136 i v4 v9 k0_t4) a + S64x512.size a ≤ S32768x1024.size a := fun i v4 v9 k0_hw1 k0_t4 k0_h5 => k0_hw1.2.2.2.2.2.2.2.2.2.2.2.2 k0_t4 k0_h5

def k0_off137 (i : grid0.Coords) : Fin 3 → Nat :=
  let arg1 : BitVec 32 := BitVec.ofNat 32 (i 1).val
  let arg0 : BitVec 32 := BitVec.ofNat 32 (i 0).val
  let c0_i32_37_r3 : BitVec 32 := 0#32
  ![arg1.toNat, arg0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x1024 : Shape := ⟨2, ![32768, 1024]⟩
abbrev S17 : Shape := ⟨1, ![17]⟩
abbrev S16 : Shape := ⟨1, ![16]⟩
abbrev S_ : Shape := ⟨0, ![]⟩
abbrev S16x1 : Shape := ⟨2, ![16, 1]⟩
abbrev S16x1024 : Shape := ⟨2, ![16, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S32768x1024, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x1024, .f32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S16x1, .i32⟩
  | .hbm, ⟨31, _⟩ => ⟨S16x1024, .f32⟩
  | .hbm, ⟨32, _⟩ => ⟨S16x1024, .f32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S16x1, .i32⟩
  | .hbm, ⟨41, _⟩ => ⟨S16x1024, .f32⟩
  | .hbm, ⟨42, _⟩ => ⟨S16x1024, .f32⟩
  | .hbm, ⟨43, _⟩ => ⟨S16x1, .f32⟩
  | .hbm, ⟨44, _⟩ => ⟨S16x1024, .f32⟩
  | .hbm, ⟨45, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_cst : Ref sig .tc := ⟨.hbm, 11, rfl⟩
abbrev main_call0_call0_v0 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Spec.lean ====
/- What every program of this certificate computes: the mean of each of sixteen consecutive segments of the
   rows of a `32768 × 1024` array of finite numbers, as ONE real number per result element; what the
   precondition says in these words; and the two facts on real sums that the programs' values are read with. -/
module

public import proofs.«01_k».proof.Proof.Gen.Pre_segments
public import Idealize.ShloMosaic.Lib.ReduceAll
public import Idealize.ShloMosaic.Lib.Pointwise
public import Idealize.ShloMosaic.Lib.StableHlo.Predicate
public import Idealize.ShloMosaic.Lib.Routing.OpsOne
public import Idealize.ShloMosaic.Lib.IdealHost
public import Idealize.ShloMosaic.Lib.Affine
public import Idealize.ShloMosaic.Lib.Tactic.WordOmega

@[expose] public section

noncomputable section

namespace Cert.Spec

open Idealize.ShloMosaic

/-- The token array's shape, the bounds' and the result's. -/
abbrev SX : Shape := ⟨2, ![32768, 1024]⟩
abbrev SC : Shape := ⟨1, ![17]⟩
abbrev SR : Shape := ⟨2, ![16, 1024]⟩

/-- Row `r`, column `d` of the array, as a real number (zero beyond the array's rows). -/
def xr (x : SX.Idx → EReal) (r : ℕ) (d : Fin 1024) : ℝ := if h : r < 32768 then (x (ix2 ⟨r, h⟩ d)).toReal else 0

/-- Segment `b` begins at row `lo`, and ends before row `hi`. -/
def lo (cu : SC.Idx → BitVec 32) (b : Fin 16) : ℕ := (cu (ix1 b.castSucc)).toNat
def hi (cu : SC.Idx → BitVec 32) (b : Fin 16) : ℕ := (cu (ix1 b.succ)).toNat

/-- The sum of column `d` over segment `b`. -/
def segSum (x : SX.Idx → EReal) (cu : SC.Idx → BitVec 32) (b : Fin 16) (d : Fin 1024) : ℝ :=
  ∑ r ∈ Finset.Ico (lo cu b) (hi cu b), xr x r d

/-- THE RESULT: each segment's mean, column by column. -/
def mean (x : SX.Idx → EReal) (cu : SC.Idx → BitVec 32) : SR.Idx → EReal :=
  fun i => ((segSum x cu (i 0) (i 1) / ((hi cu (i 0) : ℝ) - (lo cu (i 0) : ℝ)) : ℝ) : EReal)

/-- What the precondition says: finite numbers, bounds that are positions, and no empty segment. -/
structure Segs (x : SX.Idx → EReal) (cu : SC.Idx → BitVec 32) : Prop where
  fin : ∀ i, x i ≠ ⊤ ∧ x i ≠ ⊥
  le : ∀ b, (cu (ix1 b)).toNat ≤ 32768
  lt : ∀ b : Fin 16, lo cu b < hi cu b

theorem Segs.x_eq {x : SX.Idx → EReal} {cu : SC.Idx → BitVec 32} (h : Segs x cu) (r : Fin 32768) (d : Fin 1024) :
    x (ix2 r d) = ((xr x r.val d : ℝ) : EReal) := by
  unfold xr
  rw [dif_pos r.isLt]
  exact (EReal.coe_toReal (h.fin _).1 (h.fin _).2).symm

/-- The precondition, decoded. -/
theorem segs_of_pre {x : SX.Idx → EReal} {cu : SC.Idx → BitVec 32}
    (h : Cert.Pre_segments.fn (F := Ideal) x cu = fun _ => 1#1) : Segs x cu := by
  have h0 := congrFun h ix0
  unfold Cert.Pre_segments.fn at h0
  dsimp only at h0
  have hsub : Subsingleton (Cert.Pre_segments.S_).Idx := ⟨fun a b => funext fun k => k.elim0⟩
  obtain ⟨h1, hf⟩ := IntOp.andi_eq_one.mp h0
  obtain ⟨hb, hl⟩ := IntOp.andi_eq_one.mp h1
  have hb := Host.reduce_andi_all _ _ _ _ _ hb
  have hl := Host.reduce_andi_all _ _ _ _ _ hl
  have hf := Host.reduce_andi_all _ _ _ _ _ hf
  have hB : ∀ b : Fin 17, (cu (ix1 b)).toNat ≤ 32768 := fun b => by
    have h := hb (ix1 b)
    clear hb hl hf
    pointwise at h
    word_omega
  refine ⟨fun i => ?_, hB, fun b => ?_⟩
  · have h := hf i
    clear hb hl hf hB h0 h1
    pointwise at h
    have hlt := of_decide_eq_true (StableHlo.Predicate.ofBool_eq_one_iff _ |>.mp h)
    rw [show Ideal.ofBits .f32 2139095040#32 = ⊤ from by simp [Ideal.ofBits, Ideal.ieee]] at hlt
    change max (x i) (-x i) < ⊤ at hlt
    obtain ⟨h1, h2⟩ := max_lt_iff.mp hlt
    exact ⟨h1.ne, fun e => by rw [e, EReal.neg_bot] at h2; exact absurd h2 (lt_irrefl _)⟩
  · have h := hl (ix1 b)
    have h2 := hB b.castSucc
    have h3 := hB b.succ
    clear hb hl hf hB
    pointwise at h
    have e : (⟨1 + b.val, by omega⟩ : Fin 17) = b.succ := Fin.ext (by simp [add_comm])
    rw [e] at h
    change IntOp.cmpi .sgt (cu (ix1 b.succ)) (cu (ix1 b.castSucc)) = 1#1 at h
    show (cu (ix1 b.castSucc)).toNat < (cu (ix1 b.succ)).toNat
    word_omega

/-- A finite sum of real numbers, as an extended real. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A running sum down the rows, at the extended reals: of a matrix whose entries are the reals `f i c`, entry
    `(j, c)` of the windowed sum (a window of the whole height, padded low by one less) is `f 0 c + … + f j c`. -/
theorem cumsum_real {N P C : ℕ} (hN : P + 1 = N) (x : (Routing.shape2 N C).Idx → EReal) (f : ℕ → Fin C → ℝ)
    (hx : ∀ (i : Fin N) (c : Fin C), x (ValueIdx.ix2 i c) = ((f i.val c : ℝ) : EReal)) (z : EReal) (hz : z = 0)
    (h : (Routing.shape2 N C).ReduceWindows (![N, 1] : Fin 2 → ℕ) ![1, 1] ![P, 0] ![0, 0] (Routing.shape2 N C))
    (j : Fin N) (c : Fin C) :
    Ideal.hostReduceWindowAdd ![N, 1] ![1, 1] ![P, 0] ![0, 0] h x z (ValueIdx.ix2 j c)
      = ((∑ r ∈ Finset.range (j.val + 1), f r c : ℝ) : EReal) := by
  subst hN hz
  have hj := j.isLt
  have hc := c.isLt
  -- a left fold of exact additions is the sum over the positions
  have fold : ∀ (l : List (Fin (Routing.shape2 (P + 1) 1).numel)) (v : ℝ),
      l.foldl (fun (r : EReal) n => r + ((if P ≤ j.val + n.val then f (j.val + n.val - P) c else 0 : ℝ) : EReal)) (v : EReal)
        = ((v + (l.map fun n => if P ≤ j.val + n.val then f (j.val + n.val - P) c else 0).sum : ℝ) : EReal) := fun l => by
    induction l with
    | nil => intro v; simp
    | cons a l ih => intro v; rw [List.foldl_cons, ← EReal.coe_add, ih, List.map_cons, List.sum_cons, add_assoc]
  unfold Ideal.hostReduceWindowAdd Host.reduceWindow
  refine (List.foldl_ext _ (fun (r : EReal) n => r + ((if P ≤ j.val + n.val then f (j.val + n.val - P) c else 0 : ℝ) : EReal)) _
    fun r n _ => ?_).trans ?_
  · -- one position of the window: padding above the matrix's first row, a row of it from there on
    have hw0 : ((Routing.shape2 (P + 1) 1).rowMajor.symm n 0).val = n.val := by rw [Routing.symm_col]; rfl
    have hw1 : ((Routing.shape2 (P + 1) 1).rowMajor.symm n 1).val = 0 := by rw [Routing.symm_col]; rfl
    have hn : n.val < P + 1 := (n.cast (Routing.numel_col _)).isLt
    refine congrArg (r + ·) ?_
    dsimp only
    split
    · next hin =>
      have q0 : P ≤ j.val * 1 + ((Routing.shape2 (P + 1) 1).rowMajor.symm n 0).val := (hin 0).1
      rw [if_pos (by omega)]
      refine (congrArg x (funext fun a => Fin.ext ?_)).trans (hx ⟨j.val + n.val - P, by omega⟩ c)
      match a with
      | ⟨0, _⟩ =>
        show j.val * 1 + ((Routing.shape2 (P + 1) 1).rowMajor.symm n 0).val - P = j.val + n.val - P
        omega
      | ⟨1, _⟩ =>
        show c.val * 1 + ((Routing.shape2 (P + 1) 1).rowMajor.symm n 1).val - 0 = c.val
        omega
    · next hin =>
      have q : ¬P ≤ j.val + n.val := fun q => hin fun a => by
       match a with
       | ⟨0, _⟩ =>
        show P ≤ j.val * 1 + ((Routing.shape2 (P + 1) 1).rowMajor.symm n 0).val
          ∧ j.val * 1 + ((Routing.shape2 (P + 1) 1).rowMajor.symm n 0).val - P < P + 1
        omega
       | ⟨1, _⟩ =>
        show 0 ≤ c.val * 1 + ((Routing.shape2 (P + 1) 1).rowMajor.symm n 1).val
          ∧ c.val * 1 + ((Routing.shape2 (P + 1) 1).rowMajor.symm n 1).val - 0 < C
        omega
      rw [if_neg q, EReal.coe_zero]
  rw [← EReal.coe_zero, fold, zero_add]
  refine congrArg _ ?_
  rw [Routing.map_finRange_val _ (fun w => if P ≤ j.val + w then f (j.val + w - P) c else 0), Routing.numel_col]
  show ∑ w ∈ Finset.range (P + 1), (if P ≤ j.val + w then f (j.val + w - P) c else 0) = _
  rw [← Finset.sum_filter]
  refine Finset.sum_nbij' (fun w => j.val + w - P) (fun r => r + P - j.val) ?_ ?_ ?_ ?_ fun _ _ => rfl <;> intro w hw
    <;> simp only [Finset.mem_filter, Finset.mem_range] at hw ⊢ <;> omega

end Cert.Spec
end
-- ==== Proof.Ref.lean ====
/- The reference's result is the mean of each segment: its running sum down the rows read at the segment's last
   row, less the running sum at its first row, plus that row, over the segment's length. -/
module

public import proofs.«01_k».proof.Proof.Spec
public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem
open Cert.Spec (Segs mean xr lo hi segSum)

/-- Row numbers as the gather takes them: a negative one counted from the end. -/
abbrev wrap (v : IVec S16 32) : IVec S16x1 32 :=
  broadcastInDim S16x1 ![0] bcast_S16_S16x1_0 (select (cmpi .slt v (broadcastInDim S16 ![] bcast_S_S16 (constantI S_ 32 0#32)))
    (addi v (broadcastInDim S16 ![] bcast_S_S16 (constantI S_ 32 32768#32))) v)

/-- The segments' first rows, and the rows past their last ones. -/
abbrev firsts (cu : IVec S17 32) : IVec S16 32 := extractStridedSlice S16 ![0] cu slices_S17_S16_0
abbrev ends (cu : IVec S17 32) : IVec S16 32 := extractStridedSlice S16 ![1] cu slices_S17_S16_1
abbrev lasts (cu : IVec S17 32) : IVec S16 32 := subi (ends cu) (broadcastInDim S16 ![] bcast_S_S16 (constantI S_ 32 1#32))

/-- The running sum of the rows. -/
abbrev csum (x : FVec Ideal S32768x1024 .f32) : FVec Ideal S32768x1024 .f32 :=
  Host.reduceWindowAdd ![32768, 1] ![1, 1] ![32767, 0] ![0, 0] x (broadcastInDim S_ ![] bcast_S_S_ (constant S_ .f32 0x00000000#32))
    reduceWindows_S32768x1024_S32768x1024_w32768s1p32767_0_w1s1p0_0 h_S_

/-- Rows of a matrix, by number. -/
abbrev rows (x : FVec Ideal S32768x1024 .f32) (v : IVec S16 32) : FVec Ideal S16x1024 .f32 :=
  Host.gather gather_S32768x1024_S16x1_S16x1024_1_0_n_n_0_1_11024 x (wrap v)

/-- The reference's result as a term of its two arguments. -/
abbrev result (x : FVec Ideal S32768x1024 .f32) (cu : IVec S17 32) : FVec Ideal S16x1024 .f32 :=
  Host.divf (addf (subf (rows (csum x) (lasts cu)) (rows (csum x) (firsts cu))) (rows x (firsts cu)))
    (broadcastInDim S16x1024 ![0, 1] bcast_S16x1_S16x1024_0_1 (broadcastInDim S16x1 ![0] bcast_S16_S16x1_0
      (sitofp .f32 (subi (ends cu) (firsts cu)))))

theorem firsts_at (cu : IVec S17 32) (b : Fin 16) : firsts cu (ix1 b) = cu (ix1 b.castSucc) := by
  unfold firsts; pointwise; rfl

theorem ends_at (cu : IVec S17 32) (b : Fin 16) : ends cu (ix1 b) = cu (ix1 b.succ) := by
  unfold ends
  pointwise
  exact congrArg (fun k => cu (ix1 k)) (Fin.ext (by simp [add_comm]))

/-- A row number in range is taken as it is. -/
theorem wrap_at (v : IVec S16 32) (b : Fin 16) (r : Fin 32768) (h : (v (ix1 b)).toNat = r.val) :
    wrap v (ValueIdx.ix2 b (0 : Fin 1)) = BitVec.ofNat 32 r.val := by
  have hr := r.isLt
  have e : wrap v (ValueIdx.ix2 b (0 : Fin 1)) = v (ix1 b) := by
    rw [← ix2_eq_valueIdx]
    unfold wrap
    pointwise
    have h0 : ¬(v (ix1 b)).toInt < 0 := by rw [StableHlo.Predicate.toInt_eq_toNat_of_lt (by omega)]; omega
    exact if_neg fun q => h0 (by simpa using IntOp.cmpi_slt.mp q)
  rw [e, ← h, BitVec.ofNat_toNat, BitVec.setWidth_eq]

/-- So the gathered row is that row of the matrix. -/
theorem rows_at (x : FVec Ideal S32768x1024 .f32) (v : IVec S16 32) (b : Fin 16) (d : Fin 1024) (r : Fin 32768)
    (h : (v (ix1 b)).toNat = r.val) : rows x v (ix2 b d) = x (ix2 r d) :=
  Routing.gather_row gather_S32768x1024_S16x1_S16x1024_1_0_n_n_0_1_11024 rfl rfl rfl rfl rfl x (wrap v) b d r (wrap_at v b r h) (by decide)

theorem zero_at : broadcastInDim S_ ![] bcast_S_S_ (constant (F := Ideal) S_ .f32 0x00000000#32) (Shape.Idx.first h_S_) = 0 := by
  pointwise

set_option maxRecDepth 16384 in
/-- The running sum at row `r`. -/
theorem csum_at {x : FVec Ideal S32768x1024 .f32} {cu : IVec S17 32} (hs : Segs x cu) (r : Fin 32768) (d : Fin 1024) :
    csum x (ix2 r d) = ((∑ k ∈ Finset.range (r.val + 1), xr x k d : ℝ) : EReal) :=
by
  unfold csum Host.reduceWindowAdd
  rw [Ideal.hostReduceWindowAdd_def, zero_at]
  have h := Cert.Spec.cumsum_real (N := 32768) (P := 32767) (C := 1024) (by norm_num) x (xr x) (fun i c => hs.x_eq i c) 0 rfl
    reduceWindows_S32768x1024_S32768x1024_w32768s1p32767_0_w1s1p0_0 r d
  rw [ix2_eq_valueIdx]
  exact h

/-- THE REFERENCE'S VALUE. -/
theorem result_eq {x : FVec Ideal S32768x1024 .f32} {cu : IVec S17 32} (hs : Segs x cu) : result x cu = mean x cu := by
  funext i
  obtain ⟨b, d, rfl⟩ : ∃ (b : Fin 16) (d : Fin 1024), i = ix2 b d := ⟨i 0, i 1, eq_ix2 i⟩
  have hlt := hs.lt b
  have hle : hi cu b ≤ 32768 := hs.le _
  have hl : (lasts cu (ix1 b)).toNat = hi cu b - 1 := by
    show (ends cu (ix1 b) - broadcastInDim S16 ![] bcast_S_S16 (constantI S_ 32 1#32) (ix1 b)).toNat = _
    rw [ends_at, show broadcastInDim S16 ![] bcast_S_S16 (constantI S_ 32 1#32) (ix1 b) = 1#32 from by pointwise, BitVec.toNat_sub]
    show (2 ^ 32 - 1 + hi cu b) % 2 ^ 32 = _
    omega
  have e1 := rows_at (csum x) (lasts cu) b d ⟨hi cu b - 1, by omega⟩ hl
  have e2 := rows_at (csum x) (firsts cu) b d ⟨lo cu b, by omega⟩ (by rw [firsts_at]; rfl)
  have e3 := rows_at x (firsts cu) b d ⟨lo cu b, by omega⟩ (by rw [firsts_at]; rfl)
  rw [csum_at hs] at e1 e2
  rw [hs.x_eq] at e3
  have hlen : (broadcastInDim S16x1024 ![0, 1] bcast_S16x1_S16x1024_0_1 (broadcastInDim S16x1 ![0] bcast_S16_S16x1_0
      (sitofp (F := Ideal) .f32 (subi (ends cu) (firsts cu)))) : FVec Ideal S16x1024 .f32) (ix2 b d) = (((hi cu b : ℝ) - (lo cu b : ℝ) : ℝ) : EReal) := by
    pointwise
    have e : (⟨1 + b.val, by omega⟩ : Fin 17) = b.succ := Fin.ext (by simp [add_comm])
    rw [e]
    have h1 := hs.le b.succ
    have h2 : (IntOp.subi (cu (ix1 b.succ)) (cu (ix1 b.castSucc))).toNat = hi cu b - lo cu b := by
      rw [show IntOp.subi (cu (ix1 b.succ)) (cu (ix1 b.castSucc)) = cu (ix1 b.succ) - cu (ix1 b.castSucc) from rfl, BitVec.toNat_sub]
      unfold lo hi at *
      omega
    show (((IntOp.subi (cu (ix1 b.succ)) (cu (ix1 b.castSucc))).toInt : ℝ) : EReal) = _
    rw [StableHlo.Predicate.toInt_eq_toNat_of_lt (by rw [h2]; omega), h2, ← Nat.cast_sub hlt.le]
    rfl
  show Ideal.div (rows (csum x) (lasts cu) (ix2 b d) - rows (csum x) (firsts cu) (ix2 b d) + rows x (firsts cu) (ix2 b d)) _ = _
  have hne : (hi cu b : ℝ) - (lo cu b : ℝ) ≠ 0 := sub_ne_zero.mpr (by exact_mod_cast hlt.ne')
  have hsum : (∑ k ∈ Finset.range (hi cu b - 1 + 1), xr x k d) - (∑ k ∈ Finset.range (lo cu b + 1), xr x k d) + xr x (lo cu b) d
      = segSum x cu b d := by
    unfold segSum
    rw [Finset.sum_Ico_eq_sub _ hlt.le, Finset.sum_range_succ _ (lo cu b), Nat.sub_add_cancel (by omega)]
    ring
  rw [e1, e2, e3, hlen, ← EReal.coe_sub, ← EReal.coe_add, hsum, Ideal.div, if_neg (by exact_mod_cast hne), ← EReal.coe_inv, ← EReal.coe_mul,
    ← div_eq_mul_inv]
  rfl

end Cert.ReferenceIdeal.Value
end
-- ==== Proof.Block.lean ====
/- What the TensorCore kernel's body leaves in the result's block at one grid point: its weights' matrix times the
   point's 1024 rows, added to what the block held (to zeros at the first point). Row `b` of the weights is
   `1 / length` of segment `b` on the rows inside the segment and zero elsewhere. -/
module

public import proofs.«01_k».proof.Proof.Spec
public import proofs.«01_k».proof.Proof.Gen.KernelIdeal.Frame
public import Idealize.ShloMosaic.Lib.Pipeline.Value
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen Cert.Spec

section AnyF

variable {F : FTy → Type} [FloatOps F]

theorem hz : (![0, 0] : Fin 2 → Nat) = fun _ => 0 := funext fun a => by fin_cases a <;> rfl

/-- One segment's row of weights, from the rows' numbers and the segment's two bounds. -/
def row (v3 : IVec S1x1024 32) (s e : BitVec 32) : FVec F S1x1024 .f32 :=
  select (andi (cmpi .sge v3 (broadcast S1x1024 s)) (cmpi .slt v3 (broadcast S1x1024 e)))
    (broadcast S1x1024 (Scalar.divf (Scalar.ofBits .f32 0x3F800000#32) (Scalar.sitofp (F := F) .f32 (Scalar.maxsi (Scalar.subi e s) 1#32))))
    (broadcast S1x1024 (Scalar.ofBits .f32 0x00000000#32))

/-- The sixteen rows. -/
def weights (i : grid0.Coords) (cu : SC.Idx → BitVec 32) : FVec F S16x1024 .f32 :=
  concatenate S16x1024 0 (List.ofFn fun b : Fin 16 =>
      (⟨S1x1024, row (F := F) (k0_pay4 i) (cu (ix1 b.castSucc)) (cu (ix1 b.succ))⟩ : (s : Shape) × (s.Idx → F .f32)))
    concatenates_S1x1024_S1x1024_S1x1024_S1x1024_S1x1024_S1x1024_S1x1024_S1x1024_S1x1024_S1x1024_S1x1024_S1x1024_S1x1024_S1x1024_S1x1024_S1x1024_S16x1024_d0

/-- The table of bounds as a list: so a word of it read at a literal position is that entry by computation. -/
theorem words (c : Dev nD) (cu : TbBuf0 (F := F) c tbM0_0) : ∃ g : Fin 17 → BitVec 32, cu = fun j => g (j 0) :=
  ⟨fun b => (cu : SC.Idx → BitVec 32) (ix1 b), funext fun j => congrArg cu (funext fun a => by
    match a with
    | ⟨0, _⟩ => rfl)⟩

variable (c : Dev nD) (i : grid0.Coords) (a2 : Memref sig .tc .vmem S1024x1024 .f32) (h2 : a2.IsWhole)
    (a3 : Memref sig .tc .vmem S16x1024 .f32) (h3 : a3.IsWhole) (x : Vec F S1024x1024 .f32)
    (cu : TbBuf0 (F := F) c tbM0_0) (xo : Vec F S16x1024 .f32)

/-- At a later point: the block's weighted sums are added to what the block held. -/
theorem out_B (hc : ¬cond0_0 i) :
    out0_B_1 c i a2 h2 a3 h3 hc x cu xo = k0_pay3 (weights i cu) x xo := by
  obtain ⟨g, rfl⟩ := words c cu
  unfold out0_B_1
  rw [View.read_writes_eq_canon _ _ _ (cover0_B_1 c i a2 h2 a3 h3 hc x _ xo)]
  unfold kernelRun0_B
  dsimp only
  rw [View.canon_unit_zero hz]
  simp only [View.readAt_eq_ld, h2.read_unread, h3.read_unread, View.ld_unit_zero (S := S16x1024) hz,
    View.ld_unit_zero (S := S1024x1024) hz]
  sl_unfold_words
  rfl

/-- At the first point: to zeros. -/
theorem out_A (hc : cond0_0 i) :
    out0_A_1 c i a2 h2 a3 h3 hc x cu = k0_pay3 (weights i cu) x (k0_pay2 (F := F)) := by
  obtain ⟨g, rfl⟩ := words c cu
  unfold out0_A_1
  rw [View.read_writes_eq_canon _ _ _ (cover0_A_1 c i a2 h2 a3 h3 hc x _)]
  unfold kernelRun0_A
  dsimp only
  sl_unfold_words
  rw [View.canon_cons_unit_zero (S := S16x1024) hz, View.readCov_unit_zero (S := S16x1024) _ hz]
  simp only [View.readAt_eq_ld, h2.read_unread, View.ld_unit_zero (S := S1024x1024) hz]
  rfl

end AnyF

/-! ## The same at the extended reals -/

/-- The weight of row `r` in segment `b`'s mean. -/
def wt (cu : SC.Idx → BitVec 32) (b : Fin 16) (r : ℕ) : ℝ :=
  if lo cu b ≤ r ∧ r < hi cu b then 1 / ((hi cu b : ℝ) - (lo cu b : ℝ)) else 0

/-- A nonempty segment's length, as the body computes it: at least one already. -/
theorem len_max {s e : BitVec 32} (he : e.toNat ≤ 32768) (h : s.toNat < e.toNat) :
    (IntOp.maxsi (IntOp.subi e s) 1#32).toInt = (e.toNat : ℤ) - s.toNat := by
  have h4 : (IntOp.subi e s).toNat = e.toNat - s.toNat := by
    show (e - s).toNat = _
    rw [BitVec.toNat_sub]
    omega
  generalize IntOp.subi e s = l at *
  have hl : l.toInt = (e.toNat : ℤ) - s.toNat := by rw [BitVec.toInt_eq_toNat_of_lt (by omega)]; omega
  unfold IntOp.maxsi
  split
  · exact hl
  · next hn =>
    rw [BitVec.slt_iff_toInt_lt, hl, show (1#32 : BitVec 32).toInt = 1 from rfl] at hn
    rw [show (1#32 : BitVec 32).toInt = 1 from rfl]
    omega

theorem weights_eq {x : SX.Idx → EReal} {cu : SC.Idx → BitVec 32} (hs : Segs x cu) (i : grid0.Coords) (b : Fin 16) (k : Fin 1024) :
    weights (F := Ideal) i cu (ix2 b k) = ((wt cu b (1024 * (i 0).val + k.val) : ℝ) : EReal) := by
  unfold weights
  refine (concatenate_ofFn_unit_apply (t := S16x1024) (s₁ := S1x1024) (N := 16) 0
    (fun b => row (F := Ideal) (k0_pay4 i) (cu (ix1 b.castSucc)) (cu (ix1 b.succ))) _ rfl rfl (ix2 b k) b rfl (ix2 0 k) fun a ha => ?_).trans ?_
  · match a with
    | ⟨0, _⟩ => exact absurd rfl ha
    | ⟨1, _⟩ => rfl
  have hi0 : (i 0).val < 32 := (i 0).isLt
  have hk := k.isLt
  have h1 := hs.le b.castSucc
  have h2 := hs.le b.succ
  have h3 := hs.lt b
  unfold row wt lo hi
  unfold lo hi at h3
  generalize cu (ix1 b.castSucc) = s at *
  generalize cu (ix1 b.succ) = e at *
  unfold k0_pay4
  pointwise
  unfold Scalar.muli Scalar.maxsi Scalar.subi
  have hr : (IntOp.addi (BitVec.ofNat 32 k.val) (IntOp.muli (BitVec.ofNat 32 (i 0).val) 1024#32)).toNat = 1024 * (i 0).val + k.val := by
    show (BitVec.ofNat 32 k.val + BitVec.ofNat 32 (i 0).val * 1024#32).toNat = _
    rw [BitVec.toNat_add, BitVec.toNat_mul, BitVec.toNat_ofNat, BitVec.toNat_ofNat, BitVec.toNat_ofNat]
    omega
  have hl : (IntOp.maxsi (IntOp.subi e s) 1#32).toInt = (e.toNat : ℤ) - s.toNat := len_max h2 h3
  generalize IntOp.addi (BitVec.ofNat 32 k.val) (IntOp.muli (BitVec.ofNat 32 (i 0).val) 1024#32) = r at *
  rw [hl]
  by_cases h : s.toNat ≤ 1024 * (i 0).val + k.val ∧ 1024 * (i 0).val + k.val < e.toNat
  · rw [if_pos h, show IntOp.andi (IntOp.cmpi CmpIPredicate.sge r s) (IntOp.cmpi CmpIPredicate.slt r e) = 1#1 from by word_omega]
    have hne : ((e.toNat : ℝ) - (s.toNat : ℝ)) ≠ 0 := sub_ne_zero.mpr (by exact_mod_cast h3.ne')
    show Ideal.div 1 (((((e.toNat : ℤ) - (s.toNat : ℤ) : ℤ) : ℝ)) : EReal) = _
    rw [show ((((e.toNat : ℤ) - (s.toNat : ℤ) : ℤ) : ℝ)) = (e.toNat : ℝ) - (s.toNat : ℝ) from by push_cast; rfl, Ideal.div_coe hne, one_mul]
  · rw [if_neg h]
    refine if_neg fun q => h ?_
    obtain ⟨q1, q2⟩ := IntOp.andi_eq_one.mp q
    clear hl q
    exact ⟨by word_omega, by word_omega⟩

/-- The body's payload at an index: what the block held, and the point's rows weighted. -/
theorem pay_eq (w xo : FVec Ideal S16x1024 .f32) (x : Vec Ideal S1024x1024 .f32) (b : Fin 16) (d : Fin 1024) :
    k0_pay3 (F := Ideal) w x xo (ix2 b d) = xo (ix2 b d) + ∑ k : Fin 1024, w (ix2 b k) * x (ix2 k d) := by
  unfold k0_pay3
  pointwise

theorem zero_eq (b : Fin 16) (d : Fin 1024) : k0_pay2 (F := Ideal) (ix2 b d) = ((0 : ℝ) : EReal) := by
  unfold k0_pay2
  exact Ideal.ofBits_zero_f32

/-- The block after a point, for real numbers: what it held and the point's rows, weighted. -/
theorem pay_real {x : SX.Idx → EReal} {cu : SC.Idx → BitVec 32} (hs : Segs x cu) (i : grid0.Coords) (xo : FVec Ideal S16x1024 .f32)
    (xb : Vec Ideal S1024x1024 .f32) (b : Fin 16) (d : Fin 1024) (v : ℝ) (hv : xo (ix2 b d) = (v : EReal))
    (hx : ∀ k : Fin 1024, xb (ix2 k d) = ((xr x (1024 * (i 0).val + k.val) d : ℝ) : EReal)) :
    k0_pay3 (F := Ideal) (weights i cu) xb xo (ix2 b d)
      = ((v + ∑ k ∈ Finset.range 1024, wt cu b (1024 * (i 0).val + k) * xr x (1024 * (i 0).val + k) d : ℝ) : EReal) := by
  rw [pay_eq, hv, EReal.coe_add, ← Fin.sum_univ_eq_sum_range fun k => wt cu b (1024 * (i 0).val + k) * xr x (1024 * (i 0).val + k) d,
    coe_sum]
  refine congrArg _ (Finset.sum_congr rfl fun k _ => ?_)
  rw [weights_eq hs, hx, EReal.coe_mul]

/-- The weights put the sums together: over all the array's rows they give the segment's mean. -/
theorem sum_wt {x : SX.Idx → EReal} {cu : SC.Idx → BitVec 32} (hs : Segs x cu) (b : Fin 16) (d : Fin 1024) :
    ∑ r ∈ Finset.range 32768, wt cu b r * xr x r d = segSum x cu b d / ((hi cu b : ℝ) - (lo cu b : ℝ)) := by
  unfold segSum wt
  rw [Finset.sum_div]
  have e : Finset.Ico (lo cu b) (hi cu b) = (Finset.range 32768).filter fun r => lo cu b ≤ r ∧ r < hi cu b := by
    ext r
    have := hs.le b.succ
    simp only [Finset.mem_Ico, Finset.mem_filter, Finset.mem_range]
    unfold hi
    omega
  rw [e, Finset.sum_filter]
  refine Finset.sum_congr rfl fun r _ => ?_
  split
  · rw [one_div_mul_eq_div]
  · rw [zero_mul]

end Cert.KernelIdeal.Value
end
-- ==== Proof.Value.lean ====
/- The TensorCore kernel's result: after grid point `n` the result's block holds the weighted sums of the first
   `1024 (n + 1)` rows, so after the last the segments' means, and the one write-back puts them in the array. -/
module

public import proofs.«01_k».proof.Proof.Block

@[expose] public section

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- The two arguments, as the launch finds them. -/
abbrev argX (c : Dev nD) : SX.Idx → EReal := m ((c : Thread nD τ).loc main_arg0)
abbrev argCu (c : Dev nD) : SC.Idx → BitVec 32 := m ((c : Thread nD τ).loc main_arg1)

/-- No window's position depends on the table, so any table will do. -/
theorem ok : Ok m := trivial

/-- The one grid coordinate of a point is its number. -/
theorem coord (hO : Ok m) (t : Fin (cfgM m hO).N) : (grid0.coords t 0).val = t.val := by
  have hN : (cfgM m hO).N = 32 := N_0
  have h : ∀ t : Fin 32, (grid0.coords (t.cast N_0.symm) 0).val = t.val := by decide +kernel
  exact h (t.cast hN)

/-- A point's input block is its 1024 rows of the array. -/
theorem iblk_eq (hO : Ok m) (c : Dev nD) (t : Fin (cfgM m hO).N) (k : Fin 1024) (d : Fin 1024) (h : 1024 * t.val + k.val < 32768) :
    (iblk m hO c 0 t : Vec Ideal S1024x1024 .f32) (ix2 k d) = argX m c (ix2 ⟨1024 * t.val + k.val, h⟩ d) := by
  have hN : (cfgM m hO).N = 32 := N_0
  have ht := t.isLt
  have hc := coord m hO t
  unfold iblk
  refine (View.read_apply _ _).trans (congrArg (m ((c : Thread nD τ).loc main_arg0)) (funext fun a => Fin.ext ?_))
  match a with
  | ⟨0, _⟩ =>
    show (BitVec.ofNat 32 (grid0.coords t 0).val).toNat * 1024 + 1 * k.val = 1024 * t.val + k.val
    rw [BitVec.toNat_ofNat]
    omega
  | ⟨1, _⟩ => show 0 * 1024 + 1 * d.val = d.val; omega

/-- What one point leaves: at the first point the weighted rows added to zeros, later to what the point before left. -/
theorem outs_zero (hO : Ok m) (c : Dev nD) (h : 0 < (cfgM m hO).N) :
    outsAt0 m hO c 0 h = k0_pay3 (weights (grid0.coords ⟨0, h⟩) (argCu m c)) (iblk m hO c 0 ⟨0, h⟩) (k0_pay2 (F := Ideal)) := by
  obtain rfl : c = 0 := Subsingleton.elim _ _
  exact (outsAt0_A m hO 0 ⟨0, h⟩ rfl).trans (out_A 0 (grid0.coords ⟨0, h⟩) (ms0_0 m hO ⟨0, h⟩) (hs0_0 m hO ⟨0, h⟩)
    (ms0_1 m hO ⟨0, h⟩) (hs0_1 m hO ⟨0, h⟩) (iblk m hO 0 0 ⟨0, h⟩) (tbl m 0) _)

theorem outs_succ (hO : Ok m) (c : Dev nD) (n : ℕ) (h : n + 1 < (cfgM m hO).N) :
    outsAt0 m hO c (n + 1) h
      = k0_pay3 (weights (grid0.coords ⟨n + 1, h⟩) (argCu m c)) (iblk m hO c 0 ⟨n + 1, h⟩) (outsAt0 m hO c n (Nat.lt_of_succ_lt h)) := by
  have hN : (cfgM m hO).N = 32 := N_0
  have hB : ¬(⟨n + 1, h⟩ : Fin (cfgM m hO).N).val % 32 = 0 := by dsimp only; omega
  obtain rfl : c = 0 := Subsingleton.elim _ _
  exact (outsAt0_B m hO 0 ⟨n + 1, h⟩ hB).trans (out_B 0 (grid0.coords ⟨n + 1, h⟩) (ms0_0 m hO ⟨n + 1, h⟩) (hs0_0 m hO ⟨n + 1, h⟩)
    (ms0_1 m hO ⟨n + 1, h⟩) (hs0_1 m hO ⟨n + 1, h⟩) (iblk m hO 0 0 ⟨n + 1, h⟩) (tbl m 0) _ _)

/-- The block after point `n`: the weighted sums of the rows so far. -/
theorem outs_eq (hO : Ok m) (c : Dev nD) (hs : Segs (argX m c) (argCu m c)) (b : Fin 16) (d : Fin 1024) :
    ∀ (n : ℕ) (h : n < (cfgM m hO).N), outsAt0 m hO c n h (ix2 b d)
      = ((∑ r ∈ Finset.range (1024 * (n + 1)), wt (argCu m c) b r * xr (argX m c) r d : ℝ) : EReal) := by
  have hN : (cfgM m hO).N = 32 := N_0
  have hx : ∀ (t : Fin (cfgM m hO).N) (k : Fin 1024), (iblk m hO c 0 t : Vec Ideal S1024x1024 .f32) (ix2 k d)
      = ((xr (argX m c) (1024 * (grid0.coords t 0).val + k.val) d : ℝ) : EReal) := fun t k => by
    have ht := t.isLt
    have hk := k.isLt
    rw [coord m hO, iblk_eq m hO c t k d (by omega)]
    exact hs.x_eq _ d
  intro n
  induction n with
  | zero =>
    intro h
    rw [outs_zero]
    refine (pay_real hs _ _ _ b d 0 (zero_eq b d) (hx ⟨0, h⟩)).trans ?_
    rw [coord m hO, zero_add]
    simp
  | succ n ih =>
    intro h
    rw [outs_succ]
    refine (pay_real hs _ _ _ b d _ (ih (Nat.lt_of_succ_lt h)) (hx ⟨n + 1, h⟩)).trans ?_
    rw [coord m hO, mul_add 1024 (n + 1) 1, mul_one, Finset.sum_range_add]

/-- The last point. -/
abbrev last (hO : Ok m) : Fin (cfgM m hO).N := ⟨31, lt_of_lt_of_eq (by decide : 31 < 32) (show (cfgM m hO).N = 32 from N_0).symm⟩

/-- The block after the last point is the array of means. -/
theorem last_eq (hO : Ok m) (c : Dev nD) (hs : Segs (argX m c) (argCu m c)) (h : 31 < (cfgM m hO).N) :
    outsAt0 m hO c 31 h = mean (argX m c) (argCu m c) := by
  funext i
  obtain ⟨b, d, rfl⟩ : ∃ (b : Fin 16) (d : Fin 1024), i = ix2 b d := ⟨i 0, i 1, eq_ix2 i⟩
  rw [outs_eq m hO c hs b d 31 h]
  exact congrArg _ (sum_wt hs b d)

/-- The one write-back, after the last point, writes it. -/
theorem flushed_eq (hO : Ok m) (c : Dev nD) (hs : Segs (argX m c) (argCu m c)) (t : Fin (cfgM m hO).N)
    (hf : ((cfgM m hO).win 1).flush t = true) :
    (dats m hO 0 c).flushed 1 t = (((cfgM m hO).win 1).blk t).view.read (Elt Ideal) (mean (argX m c) (argCu m c)) := by
  have hN : (cfgM m hO).N = 32 := N_0
  have h31 : t.val = (last m hO).val := by show t.val = 31; have := (flush0_1 (adm m hO) t).mp hf; have := t.isLt; omega
  obtain rfl : t = last m hO := Fin.ext h31
  show ((cfgM m hO).win 1).cut (grid0.coords _) ((dats m hO 0 c).after 1 _) = _
  rw [after0_1, last_eq m hO c hs]
  have hz' : (fun a => ((cfgM m hO).win 1).index (last m hO) a * main_v0.ty.shape.size a) = fun _ => 0 := funext fun a => by
    match a with
    | ⟨0, _⟩ => rfl
    | ⟨1, _⟩ => rfl
  exact (Memref.read_access_unit_zero (Elt Ideal) main_v0 hz' (fun a => by rw [congrFun hz' a]; simp) (mean (argX m c) (argCu m c))).symm

/-- So the result array ends at the means. -/
theorem final_o (hO : Ok m) (c : Dev nD) (hs : Segs (argX m c) (argCu m c)) :
    (dats m hO 0 c).arrAt 1 (cfgM m hO).N = mean (argX m c) (argCu m c) := by
  have hN : (cfgM m hO).N = 32 := N_0
  refine (dats m hO 0 c).arrAt_eq_of_cover 1 (mean (argX m c) (argCu m c)) (flushed_eq m hO c hs) fun (i : SR.Idx) =>
    ⟨last m hO, (flush0_1 (adm m hO) (last m hO)).mpr rfl, ?_⟩
  refine (congrArg (i ∈ ·) (View.set_slice_whole main_v0 (((cfgM m hO).win 1).rect (last m hO)))).mpr (Rect.mem_set_unit.mpr ?_)
  have h0 : (i 0 : Nat) < 16 := (i 0).isLt
  have h1 : (i 1 : Nat) < 1024 := (i 1).isLt
  intro a
  match a with
  | ⟨0, _⟩ => show 0 * 16 ≤ (i 0 : Nat) ∧ (i 0 : Nat) < 0 * 16 + 16; omega
  | ⟨1, _⟩ => show 0 * 1024 ≤ (i 1 : Nat) ∧ (i 1 : Nat) < 0 * 1024 + 1024; omega

/-- The run, read: the result at the means, the arguments unchanged. -/
theorem run (hs : ∀ c, Segs (argX m c) (argCu m c)) :
    θ_run defs (onTc (τ := τ) (main (F := Ideal))) ⟨m, fun _ => 0, ρ⟩ fun r => ∀ c : Dev nD,
      r.2.mem ((c : Thread nD τ).loc main_v0) = mean (argX m c) (argCu m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 1).trans (final_o m (ok m) c (hs c)), (h.2.1 c).1, (h.2.1 c).2⟩)
    (θ_run_and (run_main m ρ (ok m)) (frame m ρ (ok m)))

end Cert.KernelIdeal.Value
end
-- ==== Proof.SparseBase.lean ====
/-
  What the proof of the SparseCore program is stated over: the program as the launch theorem sees it, the resource
  algebra (the handshakes' rounds beside the copies' counters), and the thread of one tile.
-/
module

public import proofs.«01_k».proof.Proof.Spec
public import proofs.«01_k».proof.Proof.Gen.SparseKernelIdeal
public import proofs.«01_k».proof.Proof.Gen.SparseKernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## One tile's thread -/

abbrev cV (L : grid0.Coords) : Fin τ.nSC := (L 0).castLE hcore0
abbrev jV (L : grid0.Coords) : Fin τ.nSub := (L 1).castLE hsub0
/-- The thread of the tile at grid point `L` of device `d`. -/
abbrev thr (d : Dev nD) (L : grid0.Coords) : Thread nD τ := V d (cV L) (jV L)

/-! ## The thirty-two lanes a tile carries through its loops -/

/-- One sixteen-lane register's contents. -/
abbrev Lane (F : FTy → Type) : Type := FVec F S16 .f32

/-- Thirty-two registers as the loops carry them. -/
def tup (g : Fin 32 → Lane F) :
    Lane F × Lane F × Lane F × Lane F × Lane F × Lane F × Lane F × Lane F × Lane F × Lane F × Lane F × Lane F × Lane F × Lane F × Lane F × Lane F
      × Lane F × Lane F × Lane F × Lane F × Lane F × Lane F × Lane F × Lane F × Lane F × Lane F × Lane F × Lane F × Lane F × Lane F × Lane F × Lane F :=
  (g 0, g 1, g 2, g 3, g 4, g 5, g 6, g 7, g 8, g 9, g 10, g 11, g 12, g 13, g 14, g 15,
    g 16, g 17, g 18, g 19, g 20, g 21, g 22, g 23, g 24, g 25, g 26, g 27, g 28, g 29, g 30, g 31)

end Cert.SparseKernelIdeal.Pool

end
-- ==== Proof.SparseTrip.lean ====
/-
  One trip of the row loops: eight rows of a chunk buffer, each a weight of zero or one times the row, added to the
  thirty-two registers.
-/
module

public import proofs.«01_k».proof.Proof.SparseBase

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem trips2 : k0_t2_loop.trips = 8 := by decide
theorem trips3 : k0_t3_loop.trips = 8 := by decide

/-! ## What a row adds -/

/-- The word of row `8 k + r` of a chunk, as the loops compute it. -/
def rowW (k : ℕ) (r : Fin 8) : BitVec 32 := Scalar.addi (Scalar.muli (Scf.iv 0#32 1#32 k) 8#32) (BitVec.ofNat 32 r.val)

/-- The weight of a row: one where the row's place in the chunk is not one an earlier chunk has taken (`sh`) and its place in
    the segment (`bs` further) lies within the segment's length `len`, else zero. -/
def wgt (len sh bs row : BitVec 32) : F .f32 :=
  Scalar.select (Scalar.andi (Scalar.andi (Scalar.cmpi .sge row sh) (Scalar.cmpi .sge (Scalar.addi bs row) 0#32))
    (Scalar.cmpi .slt (Scalar.addi bs row) len)) (Scalar.ofBits .f32 0x3F800000#32) (Scalar.ofBits .f32 0x00000000#32)

/-- Where the sixteen elements of register `l` lie in row `8 k + r`. -/
def off (k : ℕ) (r : Fin 8) (l : Fin 32) : Fin 2 → ℕ := ![(Scalar.indexCast (rowW k r)).toNat, 16 * l.val]

theorem off_eq : ∀ (k : Fin 8) (r : Fin 8) (l : Fin 32), off k.val r l = ![8 * k.val + r.val, 16 * l.val] := by decide +kernel

theorem off_inb (k : Fin 8) (r : Fin 8) (l : Fin 32) : ∀ a, off k.val r l a + S1x16.size a ≤ S64x512.size a := by
  rw [off_eq]
  intro a
  match a with
  | 0 => show 8 * k.val + r.val + 1 ≤ 64; omega
  | 1 => show 16 * l.val + 16 ≤ 512; omega

section Spec

variable {A : Memref sig .scVector .vmem S64x512 .f32} {d : Dev nD} {L : grid0.Coords} (f : Buf (Elt F) (A.view.loc (thr d L))) (len sh bs : BitVec 32)

/-- Register `l`'s sixteen elements of row `8 k + r`. -/
def piece (k : Fin 8) (r : Fin 8) (l : Fin 32) : Lane F :=
  shapeCast S16 (View.readAt (Elt F) A.view (Rect.unit (s := S64x512) (off k.val r l) S1x16.size (off_inb k r l)).toLoadRect f) shapeCasts_S1x16_S16

/-- Row `8 k + r` added to register `l`. -/
def addRow (k : Fin 8) (r : Fin 8) (l : Fin 32) (a : Lane F) : Lane F :=
  addf a (mulf (piece f k r l) (broadcast S16 (wgt len sh bs (rowW k.val r))))

/-- Trip `k`: eight rows added. -/
def addRows (k : Fin 8) (l : Fin 32) (a : Lane F) : Lane F :=
  addRow f len sh bs k 7 l (addRow f len sh bs k 6 l (addRow f len sh bs k 5 l (addRow f len sh bs k 4 l
    (addRow f len sh bs k 3 l (addRow f len sh bs k 2 l (addRow f len sh bs k 1 l (addRow f len sh bs k 0 l a)))))))

end Spec

/-! ## The trips -/

variable (d : Dev nD) (L : grid0.Coords)
    (arg2 : Memref sig .scVector .hbm S32768x1024 .f32) (harg2 : arg2.IsWhole) (arg3 : Memref sig .scVector .hbm S16 .i32) (harg3 : arg3.IsWhole)
    (arg4 : Memref sig .scVector .hbm S16 .i32) (harg4 : arg4.IsWhole) (arg5 : Memref sig .scVector .hbm S16 .f32) (harg5 : arg5.IsWhole)
    (arg6 : Memref sig .scVector .hbm S16x2x512 .f32) (harg6 : arg6.IsWhole) (arg7 : Memref sig .scVector .vmem S64x512 .f32) (harg7 : arg7.IsWhole)
    (arg8 : Memref sig .scVector .vmem S64x512 .f32) (harg8 : arg8.IsWhole) (arg9 : Memref sig .scVector .vmem S512 .f32) (harg9 : arg9.IsWhole)
    (arg10 : Memref sig .scVector .vmem S32 .i32) (harg10 : arg10.IsWhole) (arg11 : Memref sig .scVector .vmem S32 .i32) (harg11 : arg11.IsWhole)
    (arg12 : Memref sig .scVector .vmem S32 .f32) (harg12 : arg12.IsWhole) (arg13 arg14 q0 q1 q2 q3 : DmaSems sig S_)
    (v4 v9 : BitVec 32) (hw1 : k0_chk1 L v4 v9) (v14 : F .f32) (v15 v21 v22 : BitVec 32)
    (v27 v28 v29 v30 v31 v32 v33 v34 v35 v36 v37 v38 v39 v40 v41 v42 v43 v44 v45 v46 v47 v48 v49 v50 v51 : Lane F) (v232 v233 : BitVec 32)

set_option maxHeartbeats 0 in
/-- A trip of the loop over the first buffer: the buffer kept, eight rows added to every register. -/
theorem trip2 (f : Buf (Elt F) (arg7.view.loc (thr d L))) (g : Fin 32 → Lane F) (k : Fin k0_t2_loop.trips) :
    (arg7.view.loc (thr d L) ↦{fullShare} f : sProp 𝕄)
      ⊢ wp frame (wpE (defs₀ (F := F)) 𝒱₀ (thr d L) none) Set.univ
          (k0_t2_body L arg2 harg2 arg3 harg3 arg4 harg4 arg5 harg5 arg6 harg6 arg7 harg7 arg8 harg8 arg9 harg9 arg10 harg10 arg11 harg11
            arg12 harg12 arg13 arg14 q0 q1 q2 q3 v4 v9 hw1 v14 v15 v21 v22 v27 v28 v29 v30 v31 v32 v33 v34 v35 v36 v37 v38 v39 v40 v41
            v42 v43 v44 v45 v46 v47 v48 v49 v50 v51 v232 v233 k (tup g))
          fun r => iprop(⌜r = tup fun l => addRows f v9 v232 v233 (k.cast trips2) l (g l)⌝ ∗ (arg7.view.loc (thr d L) ↦{fullShare} f)) := by
  unfold k0_t2_body tup
  iintro H
  sl_exec_parts
  sl_step
  isplitr
  · ipureintro; rfl
  · iexact H

set_option maxHeartbeats 0 in
/-- A trip of the loop over the second buffer: the buffer kept, eight rows added to every register. -/
theorem trip3 (f : Buf (Elt F) (arg8.view.loc (thr d L))) (g : Fin 32 → Lane F) (k : Fin k0_t3_loop.trips) :
    (arg8.view.loc (thr d L) ↦{fullShare} f : sProp 𝕄)
      ⊢ wp frame (wpE (defs₀ (F := F)) 𝒱₀ (thr d L) none) Set.univ
          (k0_t3_body L arg2 harg2 arg3 harg3 arg4 harg4 arg5 harg5 arg6 harg6 arg7 harg7 arg8 harg8 arg9 harg9 arg10 harg10 arg11 harg11
            arg12 harg12 arg13 arg14 q0 q1 q2 q3 v4 v9 hw1 v14 v15 v21 v22 v27 v28 v29 v30 v31 v32 v33 v34 v35 v36 v37 v38 v39 v40 v41
            v42 v43 v44 v45 v46 v47 v48 v49 v50 v51 v232 v233 k (tup g))
          fun r => iprop(⌜r = tup fun l => addRows f v9 v232 v233 (k.cast trips3) l (g l)⌝ ∗ (arg8.view.loc (thr d L) ↦{fullShare} f)) := by
  unfold k0_t3_body tup
  iintro H
  sl_exec_parts
  sl_step
  isplitr
  · ipureintro; rfl
  · iexact H

end Cert.SparseKernelIdeal.Pool

end
-- ==== Proof.SparseWord.lean ====
/-
  The words of a tile: where its chunks start, how many pairs of chunks it fetches, and the side conditions of its run,
  from the ranges of the segment's start and length.
-/
module

public import proofs.«01_k».proof.Proof.SparseBase
public import Idealize.ShloMosaic.Lib.LoopRemainder

@[expose] public section

noncomputable section

namespace Cert.SparseKernelIdeal.Pool

open Cert.SparseKernelIdeal Cert.SparseKernelIdeal.Gen
open Idealize.ShloMosaic

/-- A segment's start and length as every tile may read them. -/
structure Rng (v len : BitVec 32) : Prop where
  start : v.toNat ≤ 32768
  lo : -32768 ≤ len.toInt
  hi : len.toInt ≤ 32768

/-- The multiple of eight at or below the start. -/
abbrev algn (v : BitVec 32) : BitVec 32 := Scalar.andi v 4294967288#32

theorem algn_toNat (v : BitVec 32) : (algn v).toNat = v.toNat / 8 * 8 := by
  show (v &&& 4294967288#32).toNat = _
  rw [BitVec.toNat_and]
  refine Nat.eq_of_testBit_eq fun i => ?_
  have hv : v.toNat < 2 ^ 32 := v.isLt
  rw [Nat.testBit_and, show (4294967288#32 : BitVec 32).toNat = (2 ^ 29 - 1) * 2 ^ 3 from rfl, show v.toNat / 8 * 8 = v.toNat / 2 ^ 3 * 2 ^ 3 from rfl,
    Nat.testBit_mul_two_pow, Nat.testBit_mul_two_pow, Nat.testBit_two_pow_sub_one, Nat.testBit_div_two_pow]
  by_cases h3 : 3 ≤ i
  · rw [Nat.sub_add_cancel h3]
    by_cases h32 : i < 32
    · simp [h3, show i - 3 < 29 by omega]
    · rw [Nat.testBit_lt_two_pow (lt_of_lt_of_le hv (Nat.pow_le_pow_right (by decide) (by omega)))]
      simp
  · simp [h3]

/-- How many pairs of chunks the segment takes, as the kernel computes it. -/
def pairsW (v len : BitVec 32) : BitVec 32 :=
  Scalar.shrsi (Scalar.addi (Scalar.shrsi (Scalar.addi (Scalar.addi len (Scalar.subi v (algn v))) 63#32) 6#32) 1#32) 1#32

/-- The same count. -/
def pairs (v len : BitVec 32) : ℤ := ((len.toInt + (v.toNat % 8 : ℕ) + 63) / 64 + 1) / 2

theorem toInt_add_of {a b : BitVec 32} (h : -2 ^ 31 ≤ a.toInt + b.toInt) (h' : a.toInt + b.toInt < 2 ^ 31) :
    (Scalar.addi a b).toInt = a.toInt + b.toInt := by
  show (a + b).toInt = _
  rw [BitVec.toInt_add]
  simp only [Int.bmod_def]
  omega

theorem toInt_shr (a n : BitVec 32) (h : n.toNat < 32) : (Scalar.shrsi a n).toInt = a.toInt / 2 ^ n.toNat := by
  show (IntOp.shrsi .scalar a n).toInt = _
  unfold IntOp.shrsi
  rw [if_pos h, BitVec.sshiftRight', BitVec.toInt_sshiftRight, Int.shiftRight_eq_div_pow]
  rfl

variable {v len : BitVec 32}

theorem sub_algn_toInt (v : BitVec 32) : (Scalar.subi v (algn v)).toInt = (v.toNat % 8 : ℕ) := by
  have h := algn_toNat v
  have : (Scalar.subi v (algn v)).toNat = v.toNat % 8 := by
    show (v - algn v).toNat = _
    rw [BitVec.toNat_sub]; omega
  rw [BitVec.toInt_eq_toNat_cond, this]
  split <;> omega

theorem pairsW_toInt (hr : Rng v len) : (pairsW v len).toInt = pairs v len := by
  obtain ⟨h1, h2, h3⟩ := hr
  unfold pairsW pairs
  have e0 := sub_algn_toInt v
  have e1 : (Scalar.addi len (Scalar.subi v (algn v))).toInt = len.toInt + (v.toNat % 8 : ℕ) := by
    rw [toInt_add_of, e0] <;> rw [e0] <;> omega
  have e2 : (Scalar.addi (Scalar.addi len (Scalar.subi v (algn v))) 63#32).toInt = len.toInt + (v.toNat % 8 : ℕ) + 63 := by
    have : (63#32 : BitVec 32).toInt = 63 := by decide
    rw [toInt_add_of, e1, this] <;> rw [e1, this] <;> omega
  have e3 := toInt_shr (Scalar.addi (Scalar.addi len (Scalar.subi v (algn v))) 63#32) 6#32 (by decide)
  rw [e2, show (2 : ℤ) ^ (6#32 : BitVec 32).toNat = 64 from rfl] at e3
  rw [toInt_shr _ _ (by decide), toInt_add_of, e3, show (1#32 : BitVec 32).toInt = 1 from rfl]
  · rfl
  all_goals rw [e3, show (1#32 : BitVec 32).toInt = 1 from rfl]; omega

theorem pairs_le (hr : Rng v len) : pairs v len ≤ 257 := by
  obtain ⟨h1, h2, h3⟩ := hr
  unfold pairs; omega
theorem le_pairs (hr : Rng v len) : -257 ≤ pairs v len := by
  obtain ⟨h1, h2, h3⟩ := hr
  unfold pairs; omega

/-- The number of trips over the pairs. -/
def np (v len : BitVec 32) : ℕ := (pairs v len).toNat

theorem loop_eq (v len : BitVec 32) : k0_t1_loop v len = ⟨0#32, pairsW v len, 1#32⟩ := by
  show (⟨0#32, Scalar.addi 0#32 (Scalar.muli (Scalar.divsi (Scalar.subi (pairsW v len) 0#32) 1#32) 1#32), 1#32⟩ : Scf.Loop 32) = _
  rw [Scalar.muli_divsi_one]
  congr 1
  show 0#32 + (pairsW v len - 0#32) = _
  simp

theorem trips_eq (hr : Rng v len) : (k0_t1_loop v len).trips = np v len := by
  rw [loop_eq]
  show Scf.trips 0#32 (pairsW v len) 1#32 = _
  unfold Scf.trips np
  rw [pairsW_toInt hr, show (1#32 : BitVec 32).toInt = 1 from rfl, show (0#32 : BitVec 32).toInt = 0 from rfl]
  congr 1; omega

theorem np_le (hr : Rng v len) : np v len ≤ 257 := by have := pairs_le hr; unfold np; omega

theorem loop_ok (hr : Rng v len) : (k0_t1_loop v len).OK := by
  have h := np_le hr
  have e := trips_eq hr
  rw [loop_eq] at e ⊢
  show 0 < (1#32 : BitVec 32).toInt ∧ (0#32 : BitVec 32).toInt + Scf.trips 0#32 (pairsW v len) 1#32 * (1#32 : BitVec 32).toInt < 2 ^ (32 - 1)
  rw [show Scf.trips 0#32 (pairsW v len) 1#32 = np v len from e, show (1#32 : BitVec 32).toInt = 1 from rfl, show (0#32 : BitVec 32).toInt = 0 from rfl]
  omega

/-! ## The chunks' positions -/

/-- The first row of chunk `n` of the segment starting at `v`. -/
def base (v : BitVec 32) (n : ℕ) : ℕ := min (v.toNat / 8 * 8 + 64 * n) 32704

/-- Chunk `n`'s first row before it is moved back. -/
def rowAt (v : BitVec 32) (n : ℕ) : BitVec 32 := Scalar.addi (algn v) (BitVec.ofNat 32 (64 * n))

theorem rowAt_toNat (hv : v.toNat ≤ 32768) {n : ℕ} (hn : n ≤ 1000) : (rowAt v n).toNat = v.toNat / 8 * 8 + 64 * n := by
  unfold rowAt
  show (algn v + BitVec.ofNat 32 (64 * n)).toNat = _
  rw [BitVec.toNat_add, algn_toNat, BitVec.toNat_ofNat]; omega

theorem minsi_toNat {a : BitVec 32} (ha : a.toNat < 2 ^ 31) : (Scalar.minsi a 32704#32).toNat = min a.toNat 32704 := by
  show (if a.slt 32704#32 then a else 32704#32).toNat = _
  have e1 : a.toInt = a.toNat := by rw [BitVec.toInt_eq_toNat_cond]; split <;> omega
  have e2 : (32704#32 : BitVec 32).toInt = 32704 := by decide
  have e3 : (32704#32 : BitVec 32).toNat = 32704 := rfl
  by_cases h : a.slt 32704#32 = true
  · rw [if_pos h]; rw [BitVec.slt_iff_toInt_lt, e1, e2] at h; omega
  · rw [if_neg h]; rw [BitVec.slt_iff_toInt_lt, e1, e2] at h; omega

theorem base_eq (hv : v.toNat ≤ 32768) {n : ℕ} (hn : n ≤ 1000) : (Scalar.minsi (rowAt v n) 32704#32).toNat = base v n := by
  have h := rowAt_toNat hv hn
  rw [minsi_toNat (by omega), h]; rfl

theorem iv_eq (k : ℕ) : Scf.iv 0#32 1#32 k = BitVec.ofNat 32 k := by
  unfold Scf.iv; simp

/-- Trip `k`'s two chunks and the two after them. -/
theorem even_word (k : ℕ) : Scalar.muli (Scalar.muli (Scf.iv 0#32 1#32 k) 2#32) 64#32 = BitVec.ofNat 32 (64 * (2 * k)) := by
  rw [iv_eq]; unfold Scalar.muli IntOp.muli
  apply BitVec.eq_of_toNat_eq
  simp only [BitVec.toNat_mul, BitVec.toNat_ofNat]; omega
theorem odd_word (k : ℕ) :
    Scalar.muli (Scalar.addi (Scalar.muli (Scf.iv 0#32 1#32 k) 2#32) 1#32) 64#32 = BitVec.ofNat 32 (64 * (2 * k + 1)) := by
  rw [iv_eq]; unfold Scalar.muli Scalar.addi IntOp.muli IntOp.addi
  apply BitVec.eq_of_toNat_eq
  simp only [BitVec.toNat_mul, BitVec.toNat_add, BitVec.toNat_ofNat]; omega
theorem even_next (k : ℕ) :
    Scalar.muli (Scalar.addi (Scalar.muli (Scf.iv 0#32 1#32 k) 2#32) 2#32) 64#32 = BitVec.ofNat 32 (64 * (2 * (k + 1))) := by
  rw [iv_eq]; unfold Scalar.muli Scalar.addi IntOp.muli IntOp.addi
  apply BitVec.eq_of_toNat_eq
  simp only [BitVec.toNat_mul, BitVec.toNat_add, BitVec.toNat_ofNat]; omega
theorem odd_next (k : ℕ) :
    Scalar.muli (Scalar.addi (Scalar.addi (Scalar.muli (Scf.iv 0#32 1#32 k) 2#32) 1#32) 2#32) 64#32 = BitVec.ofNat 32 (64 * (2 * (k + 1) + 1)) := by
  rw [iv_eq]; unfold Scalar.muli Scalar.addi IntOp.muli IntOp.addi
  apply BitVec.eq_of_toNat_eq
  simp only [BitVec.toNat_mul, BitVec.toNat_add, BitVec.toNat_ofNat]; omega

theorem col_eq (L : grid0.Coords) : (Scalar.muli (BitVec.ofNat 32 (L 0).val) 512#32).toNat = 512 * (L 0).val := by
  have h0 : (L 0).val < 2 := (L 0).isLt
  show (BitVec.ofNat 32 (L 0).val * 512#32).toNat = _
  simp only [BitVec.toNat_mul, BitVec.toNat_ofNat]; omega

/-- Where chunk `n` lies in the array. -/
def coff (L : grid0.Coords) (v : BitVec 32) (n : ℕ) : Fin 2 → ℕ := ![base v n, 512 * (L 0).val]

theorem coff_inb (L : grid0.Coords) (v : BitVec 32) (n : ℕ) : ∀ a, coff L v n a + S64x512.size a ≤ S32768x1024.size a := by
  intro a
  have h0 : (L 0).val < 2 := (L 0).isLt
  match a with
  | 0 => show base v n + 64 ≤ 32768; unfold base; omega
  | 1 => show 512 * (L 0).val + 512 ≤ 1024; omega

theorem base_dvd (v : BitVec 32) (n : ℕ) : 8 ∣ base v n := by unfold base; omega

variable (L : grid0.Coords)

theorem off2_eq (hv : v.toNat ≤ 32768) (n : ℕ) (hn : n ≤ 1000) : k0_off2 L v (BitVec.ofNat 32 (64 * n)) = coff L v n := by
  show ![(Scalar.minsi (rowAt v n) 32704#32).toNat, (Scalar.muli (BitVec.ofNat 32 (L 0).val) 512#32).toNat] = _
  rw [base_eq hv hn, col_eq]; rfl

theorem off36_eq (hr : Rng v len) (k : Fin (k0_t1_loop v len).trips) : k0_off36 L v len k = coff L v (2 * (k.val + 1)) := by
  have hk := k.isLt; have h1 := trips_eq hr; have h2 := np_le hr
  show ![(Scalar.minsi (Scalar.addi (algn v) (Scalar.muli (Scalar.addi (Scalar.muli (Scf.iv 0#32 1#32 k) 2#32) 2#32) 64#32)) 32704#32).toNat,
    (Scalar.muli (BitVec.ofNat 32 (L 0).val) 512#32).toNat] = _
  rw [even_next, col_eq]
  exact congrArg (fun x => ![x, 512 * (L 0).val]) (base_eq hr.start (by omega))

theorem off69_eq (hr : Rng v len) (k : Fin (k0_t1_loop v len).trips) : k0_off69 L v len k = coff L v (2 * (k.val + 1) + 1) := by
  have hk := k.isLt; have h1 := trips_eq hr; have h2 := np_le hr
  show ![(Scalar.minsi (Scalar.addi (algn v) (Scalar.muli (Scalar.addi (Scalar.addi (Scalar.muli (Scf.iv 0#32 1#32 k) 2#32) 1#32) 2#32) 64#32)) 32704#32).toNat,
    (Scalar.muli (BitVec.ofNat 32 (L 0).val) 512#32).toNat] = _
  rw [odd_next, col_eq]
  exact congrArg (fun x => ![x, 512 * (L 0).val]) (base_eq hr.start (by omega))

/-! ## The conditions -/

/-- A comparison's bit, widened and compared with zero, is the comparison. -/
theorem bit_of (b : Bool) : Scalar.cmpi .ne (Scalar.extui (BitVec.ofBool b)) 0#32 = 1#1 ↔ b = true := by
  cases b <;> decide

theorem cond1_iff (hr : Rng v len) : k0_cond1 v len = 1#1 ↔ 0 < np v len := by
  show Scalar.cmpi .ne (Scalar.extui (BitVec.ofBool ((0#32 : BitVec 32).slt (pairsW v len)))) 0#32 = 1#1 ↔ _
  rw [bit_of, BitVec.slt_iff_toInt_lt, pairsW_toInt hr, show (0#32 : BitVec 32).toInt = 0 from rfl]
  unfold np; omega

theorem twice_toInt (hr : Rng v len) : (Scalar.muli (pairsW v len) 2#32).toInt = 2 * pairs v len := by
  have h1 := pairs_le hr; have h2 := le_pairs hr
  show (pairsW v len * 2#32).toInt = _
  rw [BitVec.toInt_mul, pairsW_toInt hr, show (2#32 : BitVec 32).toInt = 2 from rfl]
  simp only [Int.bmod_def]
  omega

theorem ofNat_toInt {n : ℕ} (h : n < 2 ^ 31) : (BitVec.ofNat 32 n).toInt = n := by
  rw [BitVec.toInt_eq_toNat_cond, BitVec.toNat_ofNat]; split <;> omega

theorem cond2_iff (hr : Rng v len) (k : Fin (k0_t1_loop v len).trips) : k0_cond2 v len k = 1#1 ↔ k.val + 1 < np v len := by
  have hk := k.isLt; have h1 := trips_eq hr; have h2 := np_le hr
  show Scalar.cmpi .ne (Scalar.extui (BitVec.ofBool ((Scalar.addi (Scalar.muli (Scf.iv 0#32 1#32 k) 2#32) 2#32).slt (Scalar.muli (pairsW v len) 2#32)))) 0#32 = 1#1 ↔ _
  have e : Scalar.addi (Scalar.muli (Scf.iv 0#32 1#32 k.val) 2#32) 2#32 = BitVec.ofNat 32 (2 * k.val + 2) := by
    rw [iv_eq]; unfold Scalar.muli Scalar.addi IntOp.muli IntOp.addi
    apply BitVec.eq_of_toNat_eq
    simp only [BitVec.toNat_mul, BitVec.toNat_add, BitVec.toNat_ofNat]; omega
  rw [bit_of, BitVec.slt_iff_toInt_lt, twice_toInt hr, e, ofNat_toInt (by omega)]
  unfold np at *; omega

theorem cond3_iff (hr : Rng v len) (k : Fin (k0_t1_loop v len).trips) : k0_cond3 v len k = 1#1 ↔ k.val + 1 < np v len := by
  have hk := k.isLt; have h1 := trips_eq hr; have h2 := np_le hr
  show Scalar.cmpi .ne (Scalar.extui (BitVec.ofBool ((Scalar.addi (Scalar.addi (Scalar.muli (Scf.iv 0#32 1#32 k) 2#32) 1#32) 2#32).slt (Scalar.muli (pairsW v len) 2#32)))) 0#32 = 1#1 ↔ _
  have e : Scalar.addi (Scalar.addi (Scalar.muli (Scf.iv 0#32 1#32 k.val) 2#32) 1#32) 2#32 = BitVec.ofNat 32 (2 * k.val + 3) := by
    rw [iv_eq]; unfold Scalar.muli Scalar.addi IntOp.muli IntOp.addi
    apply BitVec.eq_of_toNat_eq
    simp only [BitVec.toNat_mul, BitVec.toNat_add, BitVec.toNat_ofNat]; omega
  rw [bit_of, BitVec.slt_iff_toInt_lt, twice_toInt hr, e, ofNat_toInt (by omega)]
  unfold np at *; omega

/-- The remainder loop makes no trip. -/
theorem no_trip (v len : BitVec 32) (k : Fin (k0_t4_loop v len).trips) : False :=
  Scf.rem_no_trip 0#32 (Scalar.subi (pairsW v len) 0#32) k

/-- The side conditions of a tile's run. -/
theorem chk_of (hr : Rng v len) : k0_chk1 L v len := by
  have hn := np_le hr
  have ht := trips_eq hr
  refine ⟨fun _ => ?_, fun _ r => ?_, fun _ => ?_, loop_ok hr, fun k _ => ?_, fun k _ => ?_, fun k _ => ?_, fun k _ => ?_,
    Scf.rem_ok 0#32 (Scalar.subi (pairsW v len) 0#32), fun k => (no_trip _ _ k).elim, fun k => (no_trip _ _ k).elim, fun k => (no_trip _ _ k).elim,
    fun k => (no_trip _ _ k).elim⟩
  · exact (base_eq hr.start (n := 0) (by omega)).symm ▸ base_dvd v 0
  · rw [off2_eq L hr.start r.val (by omega)]; exact coff_inb L v _
  · exact (base_eq hr.start (n := 1) (by omega)).symm ▸ base_dvd v 1
  · have e := congrFun (off36_eq L hr k) 0
    exact (show (k0_mult3 v len k).toNat = base v _ from e) ▸ base_dvd v _
  · rw [off36_eq L hr]; exact coff_inb L v _
  · have e := congrFun (off69_eq L hr k) 0
    exact (show (k0_mult4 v len k).toNat = base v _ from e) ▸ base_dvd v _
  · rw [off69_eq L hr]; exact coff_inb L v _

end Cert.SparseKernelIdeal.Pool

end
-- ==== Proof.SparseChunk.lean ====
/-
  The chunks a tile fetches: chunk `n` of a segment that starts at `v` is sixty-four rows of the tile's half of the columns,
  from the row `64 n` after the multiple of eight at or below `v`, moved back where it would pass the last row.
-/
module

public import proofs.«01_k».proof.Proof.SparseTrip
public import proofs.«01_k».proof.Proof.SparseWord

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)

/-- Chunk `n`'s part of the array. -/
abbrev chunkM (L : grid0.Coords) (v : BitVec 32) (n : ℕ) : Memref sig .scVector .hbm S64x512 .f32 :=
  (xV).slice (Rect.unit (s := S32768x1024) (coff L v n) S64x512.size (coff_inb L v n)) (fun _ => rfl)

variable (d : Dev nD) (L : grid0.Coords)

abbrev xLoc (d : Dev nD) : Loc nD τ sig := (SparseCore.T d).loc main_arg0

variable (h : Buf (Elt F) ((xV).view.loc (thr d L))) (v : BitVec 32) (q : PosShare TreeShare)

/-- Chunk `n`'s contents. -/
def chunk (n : ℕ) : Buf (Elt F) ((b0V).view.loc (thr d L)) := (chunkM L v n).view.read (Elt F) h
def chunk' (n : ℕ) : Buf (Elt F) ((b1V).view.loc (thr d L)) := (chunkM L v n).view.read (Elt F) h

/-- The array's elements of chunk `n`, and those not in it. -/
abbrev inChunk (n : ℕ) : sProp 𝕄 := (chunkM L v n).view.loc (thr d L) ↦[(chunkM L v n).view.set]{q} h
abbrev offChunk (n : ℕ) : sProp 𝕄 := (xV).view.loc (thr d L) ↦[Finset.univ \ (chunkM L v n).view.set]{q} h

/-- The array is a chunk and what is not in it. -/
theorem split_chunk (n : ℕ) :
    ((xV).view.loc (thr d L) ↦{q} h : sProp 𝕄) ⊣⊢ iprop(inChunk d L h v q n ∗ offChunk d L h v q n) :=
  pointsTo_split_subset (Finset.subset_univ _)

/-- The array, named through a chunk of it, is the array. -/
theorem whole_of_chunk (n : ℕ) : ((chunkM L v n).view.loc (thr d L) ↦{q} h : sProp 𝕄) ⊢ ((xV).view.loc (thr d L) ↦{q} h) :=
  BI.BIBase.Entails.rfl

/-! ## What one pass over a buffer adds -/

section Pass
variable {A : Memref sig .scVector .vmem S64x512 .f32} {d : Dev nD} {L : grid0.Coords} (f : Buf (Elt F) (A.view.loc (thr d L))) (len sh bs : BitVec 32)

/-- Register `l` after the first `8 k` rows of the buffer. -/
def rowsTo (l : Fin 32) (a : Lane F) : ℕ → Lane F
  | 0 => a
  | k + 1 => if hk : k < 8 then addRows f len sh bs ⟨k, hk⟩ l (rowsTo l a k) else rowsTo l a k

theorem rowsTo_succ (l : Fin 32) (a : Lane F) (k : Fin 8) : rowsTo f len sh bs l a (k.val + 1) = addRows f len sh bs k l (rowsTo f len sh bs l a k.val) := by
  show (if hk : k.val < 8 then addRows f len sh bs ⟨k.val, hk⟩ l (rowsTo f len sh bs l a k.val) else _) = _
  rw [dif_pos k.isLt]

end Pass

/-- The offset, within chunk `n`, of the first row not in a chunk before it; and chunk `n`'s first row, counted from the segment's start. -/
def shW (n : ℕ) : BitVec 32 := Scalar.subi (rowAt v n) (Scalar.minsi (rowAt v n) 32704#32)
def bsW (n : ℕ) : BitVec 32 := Scalar.subi (Scalar.minsi (rowAt v n) 32704#32) v

/-- The registers before pair `k`. -/
def accs (len : BitVec 32) (a : Fin 32 → Lane F) : ℕ → Fin 32 → Lane F
  | 0 => a
  | k + 1 => fun l =>
      rowsTo (A := b1V) (d := d) (L := L) (chunk' d L h v (2 * k + 1)) len (shW v (2 * k + 1)) (bsW v (2 * k + 1)) l
        (rowsTo (A := b0V) (d := d) (L := L) (chunk d L h v (2 * k)) len (shW v (2 * k)) (bsW v (2 * k)) l (accs len a k l) 8) 8

/-! ## Fetches -/

variable (q1 : PosShare TreeShare) (O : CellTallies nD τ sig (HIx 1)) (W : Waits sig (HIx 1))

/-- A fetch of chunk `n` in flight, into the first buffer or the second. -/
abbrev fl0 (n : ℕ) : sProp 𝕄 := Transfers.Flight countersEmb (thr d L) (SemLoc.dma cc0_scratch6.sem) (default : HIx 1) 1048576
  iprop(((b0V).view.loc (thr d L) ↦{fullShare} chunk d L h v n) ∗ ((chunkM L v n).view.loc (thr d L) ↦[(chunkM L v n).view.set]{q} h))
abbrev fl1 (n : ℕ) : sProp 𝕄 := Transfers.Flight countersEmb (thr d L) (SemLoc.dma cc0_scratch7.sem) (default : HIx 1) 1048576
  iprop(((b1V).view.loc (thr d L) ↦{fullShare} chunk' d L h v n) ∗ ((chunkM L v n).view.loc (thr d L) ↦[(chunkM L v n).view.set]{q1} h))

/-- A fetch whose place is chunk `n`'s, as it is issued, is `fl0` of it. -/
theorem fl0_intro (sm : SemLoc sig) (hsm : sm = SemLoc.dma cc0_scratch6.sem) (n : ℕ) (off : Fin 2 → ℕ) (inb : ∀ a, off a + S64x512.size a ≤ S32768x1024.size a) (ho : off = coff L v n) (f : Buf (Elt F) ((b0V).view.loc (thr d L)))
    (w : S64x512.Idx → Elt F .f32) (hw : w = ((xV).slice (Rect.unit (s := S32768x1024) off S64x512.size inb) (fun _ => rfl)).view.read (Elt F) h) :
    (Transfers.Flight countersEmb (thr d L) sm (default : HIx 1) 1048576
      iprop(((b0V).view.loc (thr d L) ↦{fullShare}
          (b0V).view.write (Elt F) f w Finset.univ)
        ∗ ((xV).view.loc (thr d L)
            ↦[((xV).slice (Rect.unit (s := S32768x1024) off S64x512.size inb) (fun _ => rfl)).view.set]{q} h)) : sProp 𝕄)
      ⊢ fl0 d L h v q n := by
  subst hw ho hsm
  refine Transfers.Flight_mono countersEmb (thr d L) ?_
  rw [View.write_whole_univ]
  exact BI.BIBase.Entails.rfl

/-- The same of the second buffer. -/
theorem fl1_intro (sm : SemLoc sig) (hsm : sm = SemLoc.dma cc0_scratch7.sem) (n : ℕ) (off : Fin 2 → ℕ) (inb : ∀ a, off a + S64x512.size a ≤ S32768x1024.size a) (ho : off = coff L v n) (f : Buf (Elt F) ((b1V).view.loc (thr d L)))
    (w : S64x512.Idx → Elt F .f32) (hw : w = ((xV).slice (Rect.unit (s := S32768x1024) off S64x512.size inb) (fun _ => rfl)).view.read (Elt F) h) :
    (Transfers.Flight countersEmb (thr d L) sm (default : HIx 1) 1048576
      iprop(((b1V).view.loc (thr d L) ↦{fullShare}
          (b1V).view.write (Elt F) f w Finset.univ)
        ∗ ((xV).view.loc (thr d L)
            ↦[((xV).slice (Rect.unit (s := S32768x1024) off S64x512.size inb) (fun _ => rfl)).view.set]{q1} h)) : sProp 𝕄)
      ⊢ fl1 d L h v q1 n := by
  subst hw ho hsm
  refine Transfers.Flight_mono countersEmb (thr d L) ?_
  rw [View.write_whole_univ]
  exact BI.BIBase.Entails.rfl

/-- What is left of the array when the place is chunk `n`'s. -/
theorem off_intro (n : ℕ) (off : Fin 2 → ℕ) (inb : ∀ a, off a + S64x512.size a ≤ S32768x1024.size a) (ho : off = coff L v n) :
    ((xV).view.loc (thr d L) ↦[Finset.univ \ ((xV).slice (Rect.unit (s := S32768x1024) off S64x512.size inb) (fun _ => rfl)).view.set]{q} h : sProp 𝕄)
      ⊢ offChunk d L h v q n := by
  subst ho
  exact BI.BIBase.Entails.rfl

end Cert.SparseKernelIdeal.Pool

end
-- ==== Proof.SparseStep.lean ====
/-
  One trip of a tile's loop over its pairs of chunks: both chunks of the pair are awaited and added, and the next pair's are
  fetched when there is one.
-/
module

public import proofs.«01_k».proof.Proof.SparseChunk

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)

variable (d : Dev nD) (L : grid0.Coords) (h : Buf (Elt F) ((xV).view.loc (thr d L))) (q q1' : PosShare TreeShare)
    (O : CellTallies nD τ sig (HIx 1)) (W : Waits sig (HIx 1))
    (harg2 : (xV).IsWhole) (arg3 : Memref sig .scVector .hbm S16 .i32) (harg3 : arg3.IsWhole)
    (arg4 : Memref sig .scVector .hbm S16 .i32) (harg4 : arg4.IsWhole) (arg5 : Memref sig .scVector .hbm S16 .f32) (harg5 : arg5.IsWhole)
    (arg6 : Memref sig .scVector .hbm S16x2x512 .f32) (harg6 : arg6.IsWhole) (harg7 : (b0V).IsWhole)
    (harg8 : (b1V).IsWhole) (arg9 : Memref sig .scVector .vmem S512 .f32) (harg9 : arg9.IsWhole)
    (arg10 : Memref sig .scVector .vmem S32 .i32) (harg10 : arg10.IsWhole) (arg11 : Memref sig .scVector .vmem S32 .i32) (harg11 : arg11.IsWhole)
    (arg12 : Memref sig .scVector .vmem S32 .f32) (harg12 : arg12.IsWhole) (q0 q1 q2 q3 : DmaSems sig S_)
    (v4 v9 : BitVec 32) (hw1 : k0_chk1 L v4 v9) (v14 : F .f32) (v21 v22 : BitVec 32)
    (v27 v28 v29 v30 v31 v32 v33 v34 v35 v36 v37 v38 v39 v40 v41 v42 v43 v44 v45 v46 v47 v48 v49 v50 v51 : Lane F)

/-- What a tile holds of its fetches before pair `k`: the pair's two chunks on the way, or, past the last pair, everything at rest. -/
def fetches (v len : BitVec 32) (k : ℕ) : sProp 𝕄 :=
  if k < np v len then
    iprop(fl0 d L h v q (2 * k) ∗ offChunk d L h v q (2 * k) ∗ fl1 d L h v q1' (2 * k + 1) ∗ offChunk d L h v q1' (2 * k + 1))
  else
    iprop(semVal (thr d L, SemLoc.dma cc0_scratch6.sem) 0 ∗ semVal (thr d L, SemLoc.dma cc0_scratch7.sem) 0
      ∗ (∃ f, (b0V).view.loc (thr d L) ↦{fullShare} f) ∗ (∃ f, (b1V).view.loc (thr d L) ↦{fullShare} f)
      ∗ ((xV).view.loc (thr d L) ↦{q} h) ∗ ((xV).view.loc (thr d L) ↦{q1'} h))

/-- The waits so far: those of before, and some with no call's index. -/
abbrev owed : sProp 𝕄 := iprop(∃ W', ⌜∀ p ∈ W', p ∈ W ∨ p.2 = none⌝ ∗ owes (thr d L) O W')

theorem owed_insert {W W' : Waits sig (HIx 1)} (sm : SemLoc sig) (hW' : ∀ p ∈ W', p ∈ W ∨ p.2 = none) :
    ∀ p ∈ insert (sm, (default : HIx 1)) W', p ∈ W ∨ p.2 = none := by
  intro p hp
  rcases Finset.mem_insert.mp hp with rfl | hp
  · exact Or.inr rfl
  · exact hW' p hp

/-- What a trip of the loop over the pairs runs, whatever its two passes do. -/
def pairProg {X : Type} (L : grid0.Coords) (harg7 : (b0V).IsWhole) (harg8 : (b1V).IsWhole) (v4 v9 : BitVec 32) (k0_hw1 : k0_chk1 L v4 v9)
    (body2 : BitVec 32 → BitVec 32 → Fin k0_t2_loop.trips → X → Prog (TpuEff nD τ sig (Elt F) Λ₀ (.scVector ((L 0).castLE hcore0) ((L 1).castLE hsub0))) X)
    (body3 : BitVec 32 → BitVec 32 → Fin k0_t3_loop.trips → X → Prog (TpuEff nD τ sig (Elt F) Λ₀ (.scVector ((L 0).castLE hcore0) ((L 1).castLE hsub0))) X)
    (k0_t1 : Fin (k0_t1_loop v4 v9).trips) (x : X) : Prog (TpuEff nD τ sig (Elt F) Λ₀ (.scVector ((L 0).castLE hcore0) ((L 1).castLE hsub0))) X := do
  let v226 : BitVec 32 := Scalar.muli (Scf.iv 0#32 1#32 k0_t1) 2#32
  Prog.lift (.waitDma2 cc0_scratch6.sem ((xV).slice (Rect.unit (s := S32768x1024) (k0_off3 L) S64x512.size (k0_off3_inb L)) (fun _ => rfl)) b0V
    (View.wordExact_bits rfl) harg7.wordExact)
  let v230 : BitVec 32 := Scalar.addi (algn v4) (Scalar.muli v226 64#32)
  let v231 : BitVec 32 := Scalar.minsi v230 32704#32
  let x ← Scf.Loop.for k0_t2_loop k0_t2_ok x (body2 (Scalar.subi v230 v231) (Scalar.subi v231 v4))
  if k0_h2 : k0_cond2 v4 v9 k0_t1 = 1#1 then do
    Prog.lift (.enqueueDma ((xV).slice (Rect.unit (s := S32768x1024) (k0_off36 L v4 v9 k0_t1) S64x512.size (k0_off36_inb L v4 v9 k0_hw1 k0_t1 k0_h2)) (fun _ => rfl))
      (.here b0V) (.dma cc0_scratch6.sem) (View.wordExact_bits rfl) harg7.wordExact ⟨Or.inl rfl, trivial⟩)
    pure ⟨⟩
  else do
    pure ⟨⟩
  let v240 : BitVec 32 := Scalar.addi v226 1#32
  Prog.lift (.waitDma2 cc0_scratch7.sem ((xV).slice (Rect.unit (s := S32768x1024) (k0_off3 L) S64x512.size (k0_off3_inb L)) (fun _ => rfl)) b1V
    (View.wordExact_bits rfl) harg8.wordExact)
  let v244 : BitVec 32 := Scalar.addi (algn v4) (Scalar.muli v240 64#32)
  let v245 : BitVec 32 := Scalar.minsi v244 32704#32
  let x ← Scf.Loop.for k0_t3_loop k0_t3_ok x (body3 (Scalar.subi v244 v245) (Scalar.subi v245 v4))
  if k0_h3 : k0_cond3 v4 v9 k0_t1 = 1#1 then do
    Prog.lift (.enqueueDma ((xV).slice (Rect.unit (s := S32768x1024) (k0_off69 L v4 v9 k0_t1) S64x512.size (k0_off69_inb L v4 v9 k0_hw1 k0_t1 k0_h3)) (fun _ => rfl))
      (.here b1V) (.dma cc0_scratch7.sem) (View.wordExact_bits rfl) harg8.wordExact ⟨Or.inl rfl, trivial⟩)
    pure ⟨⟩
  else do
    pure ⟨⟩
  pure x

set_option maxHeartbeats 0 in
/-- A trip's run: the registers pass through `P2`, then through `P3`. -/
theorem pair_run (hr : Rng v4 v9) {X : Type} (k : Fin (k0_t1_loop v4 v9).trips)
    (body2 : BitVec 32 → BitVec 32 → Fin k0_t2_loop.trips → X → Prog (TpuEff nD τ sig (Elt F) Λ₀ (.scVector ((L 0).castLE hcore0) ((L 1).castLE hsub0))) X)
    (body3 : BitVec 32 → BitVec 32 → Fin k0_t3_loop.trips → X → Prog (TpuEff nD τ sig (Elt F) Λ₀ (.scVector ((L 0).castLE hcore0) ((L 1).castLE hsub0))) X)
    (P2 P3 : ℕ → X)
    (h2 : ∀ j : Fin k0_t2_loop.trips, ((b0V).view.loc (thr d L) ↦{fullShare} chunk d L h v4 (2 * k.val) : sProp 𝕄)
      ⊢ wp frame (wpE (defs₀ (F := F)) 𝒱₀ (thr d L) none) Set.univ (body2 (shW v4 (2 * k.val)) (bsW v4 (2 * k.val)) j (P2 j.val))
          fun r => iprop(⌜r = P2 (j.val + 1)⌝ ∗ ((b0V).view.loc (thr d L) ↦{fullShare} chunk d L h v4 (2 * k.val))))
    (h3 : ∀ j : Fin k0_t3_loop.trips, ((b1V).view.loc (thr d L) ↦{fullShare} chunk' d L h v4 (2 * k.val + 1) : sProp 𝕄)
      ⊢ wp frame (wpE (defs₀ (F := F)) 𝒱₀ (thr d L) none) Set.univ (body3 (shW v4 (2 * k.val + 1)) (bsW v4 (2 * k.val + 1)) j (P3 j.val))
          fun r => iprop(⌜r = P3 (j.val + 1)⌝ ∗ ((b1V).view.loc (thr d L) ↦{fullShare} chunk' d L h v4 (2 * k.val + 1))))
    (h23 : P2 8 = P3 0) :
    iprop(Transfers.MayWaits (thr d L) (default : HIx 1) O ∗ fetches d L h q q1' v4 v9 k.val ∗ owed d L O W)
      ⊢ wp frame (wpE (defs₀ (F := F)) 𝒱₀ (thr d L) none) Set.univ (pairProg L harg7 harg8 v4 v9 hw1 body2 body3 k (P2 0))
          fun r => iprop(⌜r = P3 8⌝ ∗ fetches d L h q q1' v4 v9 (k.val + 1) ∗ owed d L O W) := by
  have hk : k.val < np v4 v9 := lt_of_lt_of_eq k.isLt (trips_eq hr)
  have h2' := h2
  have h3' := h3
  simp only [shW, bsW, rowAt, ← even_word, ← odd_word] at h2' h3'
  unfold fetches
  rw [if_pos hk]
  unfold pairProg
  iintro ⟨#Hmw, ⟨Hf0, Hx0, Hf1, Hx1⟩, %W', %hW', HO⟩
  by_cases hc : k.val + 1 < np v4 v9
  · have hc2 := (cond2_iff hr k).mpr hc
    have hc3 := (cond3_iff hr k).mpr hc
    rw [if_pos hc]
    sl_exec
    sl_for (fun j (acc : X) => iprop(⌜acc = P2 j⌝ ∗ ((b0V).view.loc (thr d L) ↦{fullShare} chunk d L h v4 (2 * k.val)))) $$ [Hf0_dst]
    · intro j acc
      iintro ⟨%hacc, H⟩
      subst hacc
      iapply (h2' j) $$ H
    · isplitr
      · ipureintro; rfl
      · iexact Hf0_dst
    iintro %x ⟨%hx, Hb0⟩
    subst hx
    ihave Hx := (whole_of_chunk d L h v4 q (2 * k.val)) $$ Hx0
    sl_exec
    sl_for (fun j (acc : X) => iprop(⌜acc = P3 j⌝ ∗ ((b1V).view.loc (thr d L) ↦{fullShare} chunk' d L h v4 (2 * k.val + 1)))) $$ [Hf1_dst]
    · intro j acc
      iintro ⟨%hacc, H⟩
      subst hacc
      iapply (h3' j) $$ H
    · isplitr
      · ipureintro; exact (congrArg P2 trips2).trans h23
      · iexact Hf1_dst
    iintro %x ⟨%hx, Hb1⟩
    subst hx
    ihave Hy := (whole_of_chunk d L h v4 q1' (2 * k.val + 1)) $$ Hx1
    sl_exec
    sl_step
    isplitr
    · ipureintro; exact congrArg P3 trips3
    isplitl [Hf0 Hx Hf1 Hy]
    · isplitl [Hf0]
      · iapply (fl0_intro d L h v4 q (.dma ⟨0, by all_goals decide⟩) rfl (2 * (k.val + 1)) _ (k0_off36_inb L v4 v9 hw1 k hc2) (off36_eq L hr k) (chunk d L h v4 (2 * k.val)) (pair_run.sl.dma0 d L h v4 v9 hw1 k hc2) rfl) $$ Hf0
      isplitl [Hx]
      · iapply (off_intro d L h v4 q (2 * (k.val + 1)) _ _ (off36_eq L hr k)) $$ Hx
      isplitl [Hf1]
      · iapply (fl1_intro d L h v4 q1' (.dma ⟨1, by all_goals decide⟩) rfl (2 * (k.val + 1) + 1) _ (k0_off69_inb L v4 v9 hw1 k hc3) (off69_eq L hr k) (chunk' d L h v4 (2 * k.val + 1)) (pair_run.sl.dma0_1 d L h v4 v9 hw1 k hc3) rfl) $$ Hf1
      · iapply (off_intro d L h v4 q1' (2 * (k.val + 1) + 1) _ _ (off69_eq L hr k)) $$ Hy
    iexists _
    isplitr
    swap
    · iexact HO
    · ipureintro; exact owed_insert _ (owed_insert _ hW')
  · have hc2 : ¬ k0_cond2 v4 v9 k = 1#1 := mt (cond2_iff hr k).mp hc
    have hc3 : ¬ k0_cond3 v4 v9 k = 1#1 := mt (cond3_iff hr k).mp hc
    rw [if_neg hc]
    sl_exec
    sl_for (fun j (acc : X) => iprop(⌜acc = P2 j⌝ ∗ ((b0V).view.loc (thr d L) ↦{fullShare} chunk d L h v4 (2 * k.val)))) $$ [Hf0_dst]
    · intro j acc
      iintro ⟨%hacc, H⟩
      subst hacc
      iapply (h2' j) $$ H
    · isplitr
      · ipureintro; rfl
      · iexact Hf0_dst
    iintro %x ⟨%hx, Hb0⟩
    subst hx
    ihave Hx := (whole_of_chunk d L h v4 q (2 * k.val)) $$ Hx0
    sl_exec
    sl_for (fun j (acc : X) => iprop(⌜acc = P3 j⌝ ∗ ((b1V).view.loc (thr d L) ↦{fullShare} chunk' d L h v4 (2 * k.val + 1)))) $$ [Hf1_dst]
    · intro j acc
      iintro ⟨%hacc, H⟩
      subst hacc
      iapply (h3' j) $$ H
    · isplitr
      · ipureintro; exact (congrArg P2 trips2).trans h23
      · iexact Hf1_dst
    iintro %x ⟨%hx, Hb1⟩
    subst hx
    ihave Hy := (whole_of_chunk d L h v4 q1' (2 * k.val + 1)) $$ Hx1
    sl_exec
    sl_step
    isplitr
    · ipureintro; exact congrArg P3 trips3
    isplitl [Hf0 Hx Hf1 Hy Hb0 Hb1]
    · isplitl [Hf0]; · iexact Hf0
      isplitl [Hf1]; · iexact Hf1
      isplitl [Hb0]; · iexists _; iexact Hb0
      isplitl [Hb1]; · iexists _; iexact Hb1
      isplitl [Hx]; · iexact Hx
      iexact Hy
    iexists _
    isplitr
    swap
    · iexact HO
    · ipureintro; exact owed_insert _ (owed_insert _ hW')

set_option maxHeartbeats 0 in
/-- A trip's program is that, its passes' programs put in. -/
theorem body_eq (k : Fin (k0_t1_loop v4 v9).trips) (g : Fin 32 → Lane F) :
    k0_t1_body L xV harg2 arg3 harg3 arg4 harg4 arg5 harg5 arg6 harg6 b0V harg7 b1V harg8 arg9 harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51 k (tup g)
      = pairProg L harg7 harg8 v4 v9 hw1
          (k0_t2_body L xV harg2 arg3 harg3 arg4 harg4 arg5 harg5 arg6 harg6 b0V harg7 b1V harg8 arg9 harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51)
          (k0_t3_body L xV harg2 arg3 harg3 arg4 harg4 arg5 harg5 arg6 harg6 b0V harg7 b1V harg8 arg9 harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51)
          k (tup g) := rfl

set_option maxRecDepth 20000 in
set_option maxHeartbeats 0 in
/-- A trip of the loop over the pairs: the pair's rows are added to every register, and the fetches move on by one pair. -/
theorem step (hr : Rng v4 v9) (a : Fin 32 → Lane F) (k : Fin (k0_t1_loop v4 v9).trips) :
    iprop(Transfers.MayWaits (thr d L) (default : HIx 1) O ∗ fetches d L h q q1' v4 v9 k.val ∗ owed d L O W)
      ⊢ wp frame (wpE (defs₀ (F := F)) 𝒱₀ (thr d L) none) Set.univ
          (k0_t1_body L xV harg2 arg3 harg3 arg4 harg4 arg5 harg5 arg6 harg6 b0V harg7 b1V harg8 arg9 harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51 k (tup (accs d L h v4 v9 a k.val)))
          fun r => iprop(⌜r = tup (accs d L h v4 v9 a (k.val + 1))⌝ ∗ fetches d L h q q1' v4 v9 (k.val + 1) ∗ owed d L O W) := by
  rw [body_eq]
  refine pair_run d L h q q1' O W harg7 harg8 v4 v9 hw1 hr k _ _
    (fun j => tup fun l => rowsTo (A := b0V) (d := d) (L := L) (chunk d L h v4 (2 * k.val)) v9 (shW v4 (2 * k.val)) (bsW v4 (2 * k.val)) l
      (accs d L h v4 v9 a k.val l) j)
    (fun j => tup fun l => rowsTo (A := b1V) (d := d) (L := L) (chunk' d L h v4 (2 * k.val + 1)) v9 (shW v4 (2 * k.val + 1)) (bsW v4 (2 * k.val + 1)) l
      (rowsTo (A := b0V) (d := d) (L := L) (chunk d L h v4 (2 * k.val)) v9 (shW v4 (2 * k.val)) (bsW v4 (2 * k.val)) l (accs d L h v4 v9 a k.val l) 8) j)
    (fun j => ?_) (fun j => ?_) rfl
  · refine BI.BIBase.Entails.trans (trip2 d L xV harg2 arg3 harg3 arg4 harg4 arg5 harg5 arg6 harg6 b0V harg7 b1V harg8 arg9 harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51 _ _ (chunk d L h v4 (2 * k.val)) _ j) (wp_mono _ _ _ fun r => sep_mono_l (BI.pure_mono fun e => ?_))
    exact Eq.trans e (congrArg tup (funext fun l => (rowsTo_succ _ _ _ _ l _ (j.cast trips2)).symm))
  · refine BI.BIBase.Entails.trans (trip3 d L xV harg2 arg3 harg3 arg4 harg4 arg5 harg5 arg6 harg6 b0V harg7 b1V harg8 arg9 harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51 _ _ (chunk' d L h v4 (2 * k.val + 1)) _ j) (wp_mono _ _ _ fun r => sep_mono_l (BI.pure_mono fun e => ?_))
    exact Eq.trans e (congrArg tup (funext fun l => (rowsTo_succ _ _ _ _ l _ (j.cast trips3)).symm))

end Cert.SparseKernelIdeal.Pool

end
-- ==== Proof.SparseLoop.lean ====
/-
  A tile's first two fetches, and its loop over the pairs of chunks, which leaves the segment's sums in the registers.
-/
module

public import proofs.«01_k».proof.Proof.SparseStep
public import Idealize.ShloMosaic.Lib.LoopRemainder

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

variable (d : Dev nD) (L : grid0.Coords) (h : Buf (Elt F) ((xV).view.loc (thr d L))) (q q1' : PosShare TreeShare)
    (O : CellTallies nD τ sig (HIx 1)) (W : Waits sig (HIx 1))
    (harg2 : (xV).IsWhole) (arg3 : Memref sig .scVector .hbm S16 .i32) (harg3 : arg3.IsWhole)
    (arg4 : Memref sig .scVector .hbm S16 .i32) (harg4 : arg4.IsWhole) (arg5 : Memref sig .scVector .hbm S16 .f32) (harg5 : arg5.IsWhole)
    (arg6 : Memref sig .scVector .hbm S16x2x512 .f32) (harg6 : arg6.IsWhole) (harg7 : (b0V).IsWhole)
    (harg8 : (b1V).IsWhole) (harg9 : (aV).IsWhole)
    (arg10 : Memref sig .scVector .vmem S32 .i32) (harg10 : arg10.IsWhole) (arg11 : Memref sig .scVector .vmem S32 .i32) (harg11 : arg11.IsWhole)
    (arg12 : Memref sig .scVector .vmem S32 .f32) (harg12 : arg12.IsWhole) (q0 q1 q2 q3 : DmaSems sig S_)
    (v4 v9 : BitVec 32) (hw1 : k0_chk1 L v4 v9) (v14 : F .f32)

/-- A register of zeros, and the registers at the start. -/
def zeros : Lane F := k0_pay1130
def start : Fin 32 → Lane F := fun _ => zeros

/-- A register's sums, times the segment's factor: what is stored of it. -/
def scaled (v : F .f32) (a : Lane F) : Lane F := k0_pay1166 v a

set_option maxHeartbeats 0 in
/-- The first two fetches, where there is a pair of chunks at all. -/
theorem fetch_run (hr : Rng v4 v9) (arg0 : BitVec 32) :
    iprop((semVal (thr d L, SemLoc.dma cc0_scratch6.sem) 0 : sProp 𝕄) ∗ semVal (thr d L, SemLoc.dma cc0_scratch7.sem) 0
      ∗ (∃ f, (b0V).view.loc (thr d L) ↦{fullShare} f) ∗ (∃ f, (b1V).view.loc (thr d L) ↦{fullShare} f)
      ∗ ((xV).view.loc (thr d L) ↦{q} h) ∗ ((xV).view.loc (thr d L) ↦{q1'} h))
      ⊢ wp frame (wpE (defs₀ (F := F)) 𝒱₀ (thr d L) none) Set.univ
          (k0_part130 L xV harg2 arg3 harg3 arg4 harg4 arg5 harg5 arg6 harg6 b0V harg7 b1V harg8 aV harg9 arg10 harg10 arg11 harg11
            arg12 harg12 cc0_scratch6 cc0_scratch7 q0 q1 q2 q3 arg0 v4 v9 hw1 (algn v4) (pairsW v4 v9))
          fun r => iprop(⌜r = ⟨Scalar.muli (pairsW v4 v9) 2#32, zeros, zeros, zeros, zeros, zeros, zeros, zeros, zeros, zeros, zeros, zeros, zeros, zeros,
              zeros, zeros, zeros, zeros, zeros, zeros, zeros, zeros, zeros, zeros, zeros, zeros⟩⌝ ∗ fetches d L h q q1' v4 v9 0) := by
  unfold fetches k0_part130
  iintro ⟨Hf0, Hf1, ⟨%f0, Hb0⟩, ⟨%f1, Hb1⟩, Hx, Hy⟩
  by_cases hc : 0 < np v4 v9
  · have hc1 := (cond1_iff hr).mpr hc
    have e0 : k0_off2 L v4 0#32 = coff L v4 0 := off2_eq L hr.start 0 (by omega)
    have e1 : k0_off2 L v4 64#32 = coff L v4 1 := off2_eq L hr.start 1 (by omega)
    rw [if_pos hc, Nat.mul_zero, Nat.zero_add]
    sl_exec
    sl_step
    isplitr
    · ipureintro; rfl
    isplitl [Hf0]
    · iapply (fl0_intro d L h v4 q (.dma ⟨0, by all_goals decide⟩) rfl 0 _ (k0_off2_inb L v4 v9 hw1 hc1 0) e0 f0 (fetch_run.sl.dma0 d L h v4 v9 hw1 hc1) rfl) $$ Hf0
    isplitl [Hx]
    · iapply (off_intro d L h v4 q 0 _ _ e0) $$ Hx
    isplitl [Hf1]
    · iapply (fl1_intro d L h v4 q1' (.dma ⟨1, by all_goals decide⟩) rfl 1 _ (k0_off2_inb L v4 v9 hw1 hc1 1) e1 f1 (fetch_run.sl.dma0_1 d L h v4 v9 hw1 hc1) rfl) $$ Hf1
    · iapply (off_intro d L h v4 q1' 1 _ _ e1) $$ Hy
  · have hc1 : ¬ k0_cond1 v4 v9 = 1#1 := mt (cond1_iff hr).mp hc
    rw [if_neg hc]
    sl_exec
    sl_step
    isplitr
    · ipureintro; rfl
    isplitl [Hf0]; · iexact Hf0
    isplitl [Hf1]; · iexact Hf1
    isplitl [Hb0]; · iexists _; iexact Hb0
    isplitl [Hb1]; · iexists _; iexact Hb1
    isplitl [Hx]; · iexact Hx
    iexact Hy

end Cert.SparseKernelIdeal.Pool

end
-- ==== Proof.SparseRun.lean ====
/-
  A tile's loop over the pairs of chunks, and what it stores of the registers.
-/
module

public import proofs.«01_k».proof.Proof.SparseLoop
public import Idealize.ShloMosaic.Lib.LoopRemainder

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

variable (d : Dev nD) (L : grid0.Coords) (h : Buf (Elt F) ((xV).view.loc (thr d L))) (q q1' : PosShare TreeShare)
    (O : CellTallies nD τ sig (HIx 1)) (W : Waits sig (HIx 1))
    (harg2 : (xV).IsWhole) (arg3 : Memref sig .scVector .hbm S16 .i32) (harg3 : arg3.IsWhole)
    (arg4 : Memref sig .scVector .hbm S16 .i32) (harg4 : arg4.IsWhole) (arg5 : Memref sig .scVector .hbm S16 .f32) (harg5 : arg5.IsWhole)
    (arg6 : Memref sig .scVector .hbm S16x2x512 .f32) (harg6 : arg6.IsWhole) (harg7 : (b0V).IsWhole)
    (harg8 : (b1V).IsWhole) (harg9 : (aV).IsWhole)
    (arg10 : Memref sig .scVector .vmem S32 .i32) (harg10 : arg10.IsWhole) (arg11 : Memref sig .scVector .vmem S32 .i32) (harg11 : arg11.IsWhole)
    (arg12 : Memref sig .scVector .vmem S32 .f32) (harg12 : arg12.IsWhole) (q0 q1 q2 q3 : DmaSems sig S_)
    (v4 v9 : BitVec 32) (hw1 : k0_chk1 L v4 v9) (v14 : F .f32)

theorem fits (l : Fin 32) : ∀ a, (![16 * l.val] : Fin 1 → ℕ) a + S16.size a ≤ S512.size a := by
  intro a
  have hl := l.isLt
  rw [Subsingleton.elim a 0]
  show 16 * l.val + 16 ≤ 512
  omega

/-- The store of register `l`. -/
def stored (g : Fin 32 → Lane F) (l : Fin 32) : View.Piece (Elt F) S512 .f32 :=
  ⟨Rect.unit (s := S512) ![16 * l.val] S16.size (fits l), scaled v14 (g l)⟩

set_option maxHeartbeats 0 in
/-- A trip, the evidence for its waits kept for the next. -/
theorem step_keep (hr : Rng v4 v9) (v21 v22 : BitVec 32)
    (v27 v28 v29 v30 v31 v32 v33 v34 v35 v36 v37 v38 v39 v40 v41 v42 v43 v44 v45 v46 v47 v48 v49 v50 v51 : Lane F) (a : Fin 32 → Lane F) (k : Fin (k0_t1_loop v4 v9).trips) :
    iprop(Transfers.MayWaits (thr d L) (default : HIx 1) O ∗ fetches d L h q q1' v4 v9 k.val ∗ owed d L O W)
      ⊢ wp frame (wpE (defs₀ (F := F)) 𝒱₀ (thr d L) none) Set.univ
          (k0_t1_body L xV harg2 arg3 harg3 arg4 harg4 arg5 harg5 arg6 harg6 b0V harg7 b1V harg8 aV harg9 arg10 harg10 arg11 harg11
            arg12 harg12 cc0_scratch6 cc0_scratch7 q0 q1 q2 q3 v4 v9 hw1 v14 (algn v4) v21 v22 v27 v28 v29 v30 v31 v32 v33 v34 v35 v36 v37 v38 v39 v40 v41
            v42 v43 v44 v45 v46 v47 v48 v49 v50 v51 k (tup (accs d L h v4 v9 a k.val)))
          fun r => iprop(⌜r = tup (accs d L h v4 v9 a (k.val + 1))⌝ ∗ Transfers.MayWaits (thr d L) (default : HIx 1) O ∗ fetches d L h q q1' v4 v9 (k.val + 1)
            ∗ owed d L O W) := by
  have hd : iprop(Transfers.MayWaits (thr d L) (default : HIx 1) O ∗ fetches d L h q q1' v4 v9 k.val ∗ owed d L O W)
      ⊢ (iprop((Transfers.MayWaits (thr d L) (default : HIx 1) O ∗ fetches d L h q q1' v4 v9 k.val ∗ owed d L O W)
          ∗ Transfers.MayWaits (thr d L) (default : HIx 1) O) : sProp 𝕄) := by
    iintro ⟨#Hmw, H⟩
    isplitl [H]
    · isplitr; · iexact Hmw
      iexact H
    iexact Hmw
  refine hd.trans ((sep_mono_left (step d L h q q1' O W harg2 arg3 harg3 arg4 harg4 arg5 harg5 arg6 harg6 harg7 harg8 aV harg9 arg10 harg10 arg11 harg11
            arg12 harg12 q0 q1 q2 q3 v4 v9 hw1 v14 v21 v22 v27 v28 v29 v30 v31 v32 v33 v34 v35 v36 v37 v38 v39 v40 v41
            v42 v43 v44 v45 v46 v47 v48 v49 v50 v51 hr a k)).trans
    ((wp_frame_r _ _ _).trans (wp_mono _ _ _ fun r => ?_)))
  iintro ⟨⟨%e, Hf, HO⟩, #Hmw⟩
  isplitr; · ipureintro; exact e
  isplitr; · iexact Hmw
  isplitl [Hf]; · iexact Hf
  iexact HO

set_option maxRecDepth 20000 in
set_option maxHeartbeats 0 in
/-- The loop, and the stores of the first five registers. -/
theorem loop_run (hr : Rng v4 v9) (f : Buf (Elt F) ((aV).view.loc (thr d L))) :
    iprop(Transfers.MayWaits (thr d L) (default : HIx 1) O ∗ fetches d L h q q1' v4 v9 0 ∗ owed d L O W ∗ ((aV).view.loc (thr d L) ↦{fullShare} f))
      ⊢ wp frame (wpE (defs₀ (F := F)) 𝒱₀ (thr d L) none) Set.univ
          (k0_part131 L xV harg2 arg3 harg3 arg4 harg4 arg5 harg5 arg6 harg6 b0V harg7 b1V harg8 aV harg9 arg10 harg10 arg11 harg11
            arg12 harg12 cc0_scratch6 cc0_scratch7 q0 q1 q2 q3 v4 v9 hw1 v14 (algn v4) (pairsW v4 v9) (Scalar.muli (pairsW v4 v9) 2#32)
            zeros zeros zeros zeros zeros zeros zeros zeros zeros zeros zeros zeros zeros zeros zeros zeros zeros zeros zeros zeros zeros zeros zeros zeros zeros)
          fun r => iprop(⌜r = ⟨accs d L h v4 v9 start (np v4 v9) 5, accs d L h v4 v9 start (np v4 v9) 6, accs d L h v4 v9 start (np v4 v9) 7, accs d L h v4 v9 start (np v4 v9) 8, accs d L h v4 v9 start (np v4 v9) 9, accs d L h v4 v9 start (np v4 v9) 10, accs d L h v4 v9 start (np v4 v9) 11, accs d L h v4 v9 start (np v4 v9) 12, accs d L h v4 v9 start (np v4 v9) 13, accs d L h v4 v9 start (np v4 v9) 14, accs d L h v4 v9 start (np v4 v9) 15, accs d L h v4 v9 start (np v4 v9) 16, accs d L h v4 v9 start (np v4 v9) 17, accs d L h v4 v9 start (np v4 v9) 18, accs d L h v4 v9 start (np v4 v9) 19, accs d L h v4 v9 start (np v4 v9) 20, accs d L h v4 v9 start (np v4 v9) 21, accs d L h v4 v9 start (np v4 v9) 22, accs d L h v4 v9 start (np v4 v9) 23, accs d L h v4 v9 start (np v4 v9) 24, accs d L h v4 v9 start (np v4 v9) 25, accs d L h v4 v9 start (np v4 v9) 26, accs d L h v4 v9 start (np v4 v9) 27, accs d L h v4 v9 start (np v4 v9) 28, accs d L h v4 v9 start (np v4 v9) 29, accs d L h v4 v9 start (np v4 v9) 30, accs d L h v4 v9 start (np v4 v9) 31⟩⌝
            ∗ fetches d L h q q1' v4 v9 (np v4 v9) ∗ owed d L O W
            ∗ ((aV).view.loc (thr d L) ↦{fullShare} (aV).view.writes (Elt F) f
                [stored v14 (accs d L h v4 v9 start (np v4 v9)) 4, stored v14 (accs d L h v4 v9 start (np v4 v9)) 3, stored v14 (accs d L h v4 v9 start (np v4 v9)) 2,
                  stored v14 (accs d L h v4 v9 start (np v4 v9)) 1, stored v14 (accs d L h v4 v9 start (np v4 v9)) 0])) := by
  unfold k0_part131
  iintro ⟨#Hmw, Hf, HO, Ha⟩
  sl_exec
  sl_for (fun k acc => iprop(⌜acc = tup (accs d L h v4 v9 start k)⌝ ∗ Transfers.MayWaits (thr d L) (default : HIx 1) O ∗ fetches d L h q q1' v4 v9 k ∗ owed d L O W)) $$ [Hf HO]
  · intro k acc
    iintro ⟨%hacc, #Hmw, Hf, HO⟩
    subst hacc
    iapply (step_keep d L h q q1' O W harg2 arg3 harg3 arg4 harg4 arg5 harg5 arg6 harg6 harg7 harg8 harg9 arg10 harg10 arg11 harg11
            arg12 harg12 q0 q1 q2 q3 v4 v9 hw1 v14 hr (pairsW v4 v9) (Scalar.muli (pairsW v4 v9) 2#32)
            zeros zeros zeros zeros zeros zeros zeros zeros zeros zeros zeros zeros zeros zeros zeros zeros zeros zeros zeros zeros zeros zeros zeros zeros zeros start k) $$ [Hf HO]
    isplitr; · iexact Hmw
    isplitl [Hf]; · iexact Hf
    iexact HO
  · isplitr
    · ipureintro; rfl
    isplitr; · iexact Hmw
    isplitl [Hf]; · iexact Hf
    iexact HO
  rw [show Scf.trips (k0_t1_loop v4 v9).lb (k0_t1_loop v4 v9).ub (k0_t1_loop v4 v9).st = np v4 v9 from trips_eq hr]
  iintro %x ⟨%hx, -, Hf, HO⟩
  subst hx
  sl_exec
  sl_step
  isplitr
  · ipureintro; rfl
  isplitl [Hf]; · iexact Hf
  isplitl [HO]; · iexact HO
  iexact Ha

end Cert.SparseKernelIdeal.Pool

end
-- ==== Proof.SparseHead.lean ====
/-
  A tile's first steps: it copies the segments' starts, lengths and factors to itself and reads its own segment's.
-/
module

public import proofs.«01_k».proof.Proof.SparseRun

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

variable (d : Dev nD) (L : grid0.Coords) (qs : PosShare TreeShare) (O : CellTallies nD τ sig (HIx 1)) (W : Waits sig (HIx 1))
    (arg2 : Memref sig .scVector .hbm S32768x1024 .f32) (harg2 : arg2.IsWhole) (harg3 : (stV).IsWhole) (harg4 : (lnV).IsWhole) (harg5 : (ivV).IsWhole)
    (arg6 : Memref sig .scVector .hbm S16x2x512 .f32) (harg6 : arg6.IsWhole) (arg7 : Memref sig .scVector .vmem S64x512 .f32) (harg7 : arg7.IsWhole)
    (arg8 : Memref sig .scVector .vmem S64x512 .f32) (harg8 : arg8.IsWhole) (arg9 : Memref sig .scVector .vmem S512 .f32) (harg9 : arg9.IsWhole)
    (harg10 : (sS).IsWhole) (harg11 : (sL).IsWhole) (harg12 : (sI).IsWhole) (arg13 arg14 q3 : DmaSems sig S_)
    (fs : Buf (Elt F) ((stV).view.loc (thr d L))) (fl : Buf (Elt F) ((lnV).view.loc (thr d L))) (fi : Buf (Elt F) ((ivV).view.loc (thr d L)))

/-- The index of the tile's segment. -/
def seg (L : grid0.Coords) : S16.Idx := fun a => ⟨(L 1).val, by have h := (L 1).isLt; rw [Subsingleton.elim a 0]; exact h⟩

omit [FloatOps F] in
/-- Sixteen words written at the front of a buffer, the one at the tile's own place read back. -/
theorem own_word {e : EltTy} (m : Memref sig .scVector .vmem S32 e) (g : m.view.ty.Contents (Elt F)) (w : S16.Idx → Elt F e) (x : S16.Idx) (hx : ∀ a, (x a).val = 0) :
    m.view.readAt (Elt F) (Rect.unit (s := S32) (k0_off1 L) S16.size (k0_off1_inb L)).toLoadRect
      (m.view.writes (Elt F) g [⟨Rect.unit (s := S32) ![0] S16.size inb_S32_S16_0, w⟩]) x = w (seg L) := by
  rw [View.readAt_apply]
  refine (m.view.read_writes_cons_hit_of_coords g (Rect.unit (s := S32) ![0] S16.size inb_S32_S16_0) w [] (seg L) _ fun a => ?_)
  have hL : (L 1).val < 16 := (L 1).isLt
  rw [Subsingleton.elim a 0]
  show (BitVec.ofNat 32 (L 1).val).toNat + 1 * (x 0).val = 0 + 1 * (L 1).val
  rw [hx 0, BitVec.toNat_ofNat, Nat.mod_eq_of_lt (by omega)]
  omega

/-- The first of sixteen lanes. -/
def lane0 : S16.Idx := fun a => ⟨0, by rw [Subsingleton.elim a 0]; exact Nat.zero_lt_succ _⟩

/-- The first lane, as the kernel takes it out. -/
theorem first_lane {α : Type} (v : S16.Idx → α) :
    extractAt (s := S1) ![0] (extractStridedSlice S1 ![0] (shapeCast S16 v shapeCasts_S16_S16) slices_S16_o0_S1) inpos_S1_p0 = v lane0 := by
  rw [shapeCast_self]
  refine (extractStridedSlice_apply ![0] v slices_S16_o0_S1 _ lane0 fun a => ?_)
  rw [Subsingleton.elim a 0]
  rfl

theorem own_start (g : (sS).view.ty.Contents (Elt F)) (w : S16.Idx → Elt F .i32) :
    extractAt (s := S1) ![0] (k0_pay1127 (F := F) ((sS).view.readAt (Elt F) (Rect.unit (s := S32) (k0_off1 L) S16.size (k0_off1_inb L)).toLoadRect
      ((sS).view.writes (Elt F) g [⟨Rect.unit (s := S32) ![0] S16.size inb_S32_S16_0, w⟩]))) inpos_S1_p0 = w (seg L) :=
  (first_lane _).trans (own_word L (sS) g w lane0 fun _ => rfl)

theorem own_len (g : (sL).view.ty.Contents (Elt F)) (w : S16.Idx → Elt F .i32) :
    extractAt (s := S1) ![0] (k0_pay1128 (F := F) ((sL).view.readAt (Elt F) (Rect.unit (s := S32) (k0_off1 L) S16.size (k0_off1_inb L)).toLoadRect
      ((sL).view.writes (Elt F) g [⟨Rect.unit (s := S32) ![0] S16.size inb_S32_S16_0, w⟩]))) inpos_S1_p0 = w (seg L) :=
  (first_lane _).trans (own_word L (sL) g w lane0 fun _ => rfl)

theorem own_inv (g : (sI).view.ty.Contents (Elt F)) (w : S16.Idx → Elt F .f32) :
    k0_pay1129 (F := F) ((sI).view.readAt (Elt F) (Rect.unit (s := S32) (k0_off1 L) S16.size (k0_off1_inb L)).toLoadRect
      ((sI).view.writes (Elt F) g [⟨Rect.unit (s := S32) ![0] S16.size inb_S32_S16_0, w⟩])) = w (seg L) :=
  (first_lane _).trans (own_word L (sI) g w lane0 fun _ => rfl)

omit [FloatOps F] in
/-- What the first steps hand on depends on the words read alone. -/
theorem handed {c a b : BitVec 32} {e : F .f32} (a' b' : BitVec 32) (e' : F .f32) (h' : k0_chk1 L a' b') (h : k0_chk1 L a b) (ha : a' = a) (hb : b' = b) (he : e' = e) :
    (⟨c, a', b', h', e', algn a', pairsW a' b'⟩ : Σ' (arg0 : BitVec 32) (v4 : BitVec 32) (v9 : BitVec 32) (k0_hw1 : k0_chk1 L v4 v9) (v14 : F .f32) (v15 : BitVec 32), BitVec 32)
      = ⟨c, a, b, h, e, algn a, pairsW a b⟩ := by
  subst ha hb he
  rfl

set_option maxHeartbeats 0 in
theorem head_run (hr : Rng (fs (seg L)) (fl (seg L)))
    (g0 : Buf (Elt F) ((sS).view.loc (thr d L))) (g1 : Buf (Elt F) ((sL).view.loc (thr d L))) (g2 : Buf (Elt F) ((sI).view.loc (thr d L))) :
    iprop(Transfers.MayWaits (thr d L) (default : HIx 1) O ∗ owed d L O W
      ∗ ((stV).view.loc (thr d L) ↦{qs} fs) ∗ ((lnV).view.loc (thr d L) ↦{qs} fl) ∗ ((ivV).view.loc (thr d L) ↦{qs} fi)
      ∗ ((sS).view.loc (thr d L) ↦{fullShare} g0) ∗ ((sL).view.loc (thr d L) ↦{fullShare} g1) ∗ ((sI).view.loc (thr d L) ↦{fullShare} g2)
      ∗ semVal (thr d L, SemLoc.dma cc0_scoped0.sem) 0 ∗ semVal (thr d L, SemLoc.dma cc0_scoped1.sem) 0 ∗ semVal (thr d L, SemLoc.dma cc0_scoped2.sem) 0)
      ⊢ wp frame (wpE (defs₀ (F := F)) 𝒱₀ (thr d L) none) Set.univ
          (k0_part129 L arg2 harg2 stV harg3 lnV harg4 ivV harg5 arg6 harg6 arg7 harg7 arg8 harg8 arg9 harg9 sS harg10 sL harg11
            sI harg12 arg13 arg14 cc0_scoped0 cc0_scoped1 cc0_scoped2 q3)
          fun r => iprop(⌜r = ⟨BitVec.ofNat 32 (L 0).val, fs (seg L), fl (seg L), chk_of L hr, fi (seg L), algn (fs (seg L)), pairsW (fs (seg L)) (fl (seg L))⟩⌝
            ∗ owed d L O W
            ∗ ((stV).view.loc (thr d L) ↦{qs} fs) ∗ ((lnV).view.loc (thr d L) ↦{qs} fl) ∗ ((ivV).view.loc (thr d L) ↦{qs} fi)
            ∗ (∃ f, (sS).view.loc (thr d L) ↦{fullShare} f) ∗ (∃ f, (sL).view.loc (thr d L) ↦{fullShare} f) ∗ (∃ f, (sI).view.loc (thr d L) ↦{fullShare} f)
            ∗ semVal (thr d L, SemLoc.dma cc0_scoped0.sem) 0 ∗ semVal (thr d L, SemLoc.dma cc0_scoped1.sem) 0 ∗ semVal (thr d L, SemLoc.dma cc0_scoped2.sem) 0) := by
  rw [k0_part129_eq_skeleton]
  unfold k0_part129_skel
  iintro ⟨#Hmw, ⟨%W', %hW', HO⟩, Hs, Hl, Hi, H0, H1, H2, Hc0, Hc1, Hc2⟩
  sl_exec
  have e4 : head_run.sl.v4 d L fs g0 = fs (seg L) := by
    delta head_run.sl.v4 head_run.sl.v1 head_run.sl.dma0
    exact own_start L g0 _
  have e9 : head_run.sl.v9 d L fl g1 = fl (seg L) := by
    delta head_run.sl.v9 head_run.sl.v6 head_run.sl.dma0_1
    exact own_len L g1 _
  have hchk : k0_chk1 L (head_run.sl.v4 d L fs g0) (head_run.sl.v9 d L fl g1) := by
    rw [e4, e9]
    exact chk_of L hr
  rw [wp_assume_of _ _ _ _ hchk]
  sl_exec
  have e14 : k0_pay1129 (head_run.sl.v11 d L fi g2) = fi (seg L) := by
    delta head_run.sl.v11 head_run.sl.dma0_2
    exact own_inv L g2 _
  sl_step
  isplitr
  · ipureintro
    exact handed L _ _ _ hchk (chk_of L hr) e4 e9 e14
  isplitl [HO]
  · iexists _
    isplitr
    swap
    · iexact HO
    · ipureintro
      exact owed_insert _ (owed_insert _ (owed_insert _ hW'))
  isplitl [Hs]
  · iexact Hs
  isplitl [Hl]
  · iexact Hl
  isplitl [Hi]
  · iexact Hi
  isplitl [H0]
  · iexists _
    iexact H0
  isplitl [H1]
  · iexists _
    iexact H1
  isplitl [H2]
  · iexists _
    iexact H2
  isplitl [Hc0]
  · iexact Hc0
  isplitl [Hc1]
  · iexact Hc1
  · iexact Hc2

/-- The same from scratch buffers of any contents, the tile's words under names of their own. -/
theorem head_run' (v4 v9 : BitVec 32) (v14 : F .f32) (hr : Rng v4 v9) (e4 : fs (seg L) = v4) (e9 : fl (seg L) = v9) (e14 : fi (seg L) = v14) :
    iprop(Transfers.MayWaits (thr d L) (default : HIx 1) O ∗ owed d L O W
      ∗ ((stV).view.loc (thr d L) ↦{qs} fs) ∗ ((lnV).view.loc (thr d L) ↦{qs} fl) ∗ ((ivV).view.loc (thr d L) ↦{qs} fi)
      ∗ (∃ f, (sS).view.loc (thr d L) ↦{fullShare} f) ∗ (∃ f, (sL).view.loc (thr d L) ↦{fullShare} f) ∗ (∃ f, (sI).view.loc (thr d L) ↦{fullShare} f)
      ∗ semVal (thr d L, SemLoc.dma cc0_scoped0.sem) 0 ∗ semVal (thr d L, SemLoc.dma cc0_scoped1.sem) 0 ∗ semVal (thr d L, SemLoc.dma cc0_scoped2.sem) 0)
      ⊢ wp frame (wpE (defs₀ (F := F)) 𝒱₀ (thr d L) none) Set.univ
          (k0_part129 L arg2 harg2 stV harg3 lnV harg4 ivV harg5 arg6 harg6 arg7 harg7 arg8 harg8 arg9 harg9 sS harg10 sL harg11
            sI harg12 arg13 arg14 cc0_scoped0 cc0_scoped1 cc0_scoped2 q3)
          fun r => iprop(⌜r = ⟨BitVec.ofNat 32 (L 0).val, v4, v9, chk_of L hr, v14, algn v4, pairsW v4 v9⟩⌝
            ∗ owed d L O W
            ∗ ((stV).view.loc (thr d L) ↦{qs} fs) ∗ ((lnV).view.loc (thr d L) ↦{qs} fl) ∗ ((ivV).view.loc (thr d L) ↦{qs} fi)
            ∗ (∃ f, (sS).view.loc (thr d L) ↦{fullShare} f) ∗ (∃ f, (sL).view.loc (thr d L) ↦{fullShare} f) ∗ (∃ f, (sI).view.loc (thr d L) ↦{fullShare} f)
            ∗ semVal (thr d L, SemLoc.dma cc0_scoped0.sem) 0 ∗ semVal (thr d L, SemLoc.dma cc0_scoped1.sem) 0 ∗ semVal (thr d L, SemLoc.dma cc0_scoped2.sem) 0) := by
  subst e4 e9 e14
  iintro ⟨#Hmw, HO, Hs, Hl, Hi, ⟨%g0, H0⟩, ⟨%g1, H1⟩, ⟨%g2, H2⟩, Hc0, Hc1, Hc2⟩
  iapply (head_run d L qs O W arg2 harg2 harg3 harg4 harg5 arg6 harg6 arg7 harg7 arg8 harg8 arg9 harg9 harg10 harg11 harg12 arg13 arg14 q3 fs fl fi hr g0 g1 g2)
    $$ [HO Hs Hl Hi H0 H1 H2 Hc0 Hc1 Hc2]
  isplitr; · iexact Hmw
  isplitl [HO]; · iexact HO
  isplitl [Hs]; · iexact Hs
  isplitl [Hl]; · iexact Hl
  isplitl [Hi]; · iexact Hi
  isplitl [H0]; · iexact H0
  isplitl [H1]; · iexact H1
  isplitl [H2]; · iexact H2
  isplitl [Hc0]; · iexact Hc0
  isplitl [Hc1]; · iexact Hc1
  iexact Hc2

end Cert.SparseKernelIdeal.Pool

end
-- ==== Proof.SparseRest.lean ====
/-
  A tile's last steps: the stores of the scaled sums, and the copy of them to the result.
-/
module

public import proofs.«01_k».proof.Proof.SparseHead

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

variable (d : Dev nD) (L : grid0.Coords) (h : Buf (Elt F) ((xV).view.loc (thr d L))) (qs q q1' : PosShare TreeShare)
    (O : CellTallies nD τ sig (HIx 1)) (W : Waits sig (HIx 1))
    (fs : Buf (Elt F) ((stV).view.loc (thr d L))) (fl : Buf (Elt F) ((lnV).view.loc (thr d L))) (fi : Buf (Elt F) ((ivV).view.loc (thr d L)))

/-- The tile's part of the result. -/
abbrev oPart (L : grid0.Coords) : Memref sig .scVector .hbm S512 .f32 :=
  ((oV).slice (Rect.unit (s := S16x2x512) (k0_off137 L) S1x1x512.size (k0_off137_inb L)) (fun _ => rfl)).squeeze S512 squeezes_S1x1x512_S512

/-- A step that hands on a value known in advance, and what follows it. -/
theorem chain {A : Type} {e : Prog (TpuEff nD τ sig (Elt F) Λ₀ (.scVector ((L 0).castLE hcore0) ((L 1).castLE hsub0))) A}
    {v : A} {P Q : sProp 𝕄} (Y : sProp 𝕄) {Φ : A → sProp 𝕄}
    (h1 : P ⊢ wp frame (wpE (defs₀ (F := F)) 𝒱₀ (thr d L) none) Set.univ e fun r => iprop(⌜r = v⌝ ∗ Q))
    (h2 : iprop(Q ∗ Y) ⊢ Φ v) :
    iprop(P ∗ Y) ⊢ wp frame (wpE (defs₀ (F := F)) 𝒱₀ (thr d L) none) Set.univ e Φ := by
  refine (sep_mono_left h1).trans ((wp_frame_r _ _ _).trans (wp_mono _ _ _ fun r => ?_))
  iintro ⟨⟨%e, HQ⟩, HY⟩
  subst e
  iapply h2
  isplitl [HQ]; · iexact HQ
  iexact HY

/-- What the tile's part of the result holds when the tile is done: element `16 l + j` is lane `j` of register `l`, scaled. -/
def Done (v4 v9 : BitVec 32) (v14 : F .f32) (fo : (oPart L).view.ty.Contents (Elt F)) : Prop :=
  ∀ (l : Fin 32) (j : S16.Idx) (y : S512.Idx), (∀ a, (y a).val = 16 * l.val + (j 0).val) →
    (oPart L).view.read (Elt F) fo y = scaled v14 (accs d L h v4 v9 start (np v4 v9) l) j

/-- The last twenty-seven stores, and the copy of the sums to the tile's part of the result. -/
def restProg (g : Fin 32 → Lane F) (v14 : F .f32) : Prog (TpuEff nD τ sig (Elt F) Λ₀ (.scVector ((L 0).castLE hcore0) ((L 1).castLE hsub0))) PUnit := do
  let ⟨v132, v133⟩ : Σ' (v132 : FVec F S16 .f32), Vec F S16 .f32 ← k0_part132 L (xV) (Memref.isWhole_whole _) (stV) (Memref.isWhole_whole _) (lnV) (Memref.isWhole_whole _) (ivV) (Memref.isWhole_whole _) (oV) (Memref.isWhole_whole _) (b0V) (Memref.isWhole_whole _) (b1V) (Memref.isWhole_whole _) (aV) (Memref.isWhole_whole _) (sS) (Memref.isWhole_whole _) (sL) (Memref.isWhole_whole _) (sI) (Memref.isWhole_whole _) cc0_scratch6 cc0_scratch7 cc0_scoped0 cc0_scoped1 cc0_scoped2 cc0_scoped3 v14 (g 5) (g 6) (g 7) (g 8) (g 9) (g 10) (g 11) (g 12) (g 13)
  let v176 : FVec F S16 .f32 ← k0_part133 L (xV) (Memref.isWhole_whole _) (stV) (Memref.isWhole_whole _) (lnV) (Memref.isWhole_whole _) (ivV) (Memref.isWhole_whole _) (oV) (Memref.isWhole_whole _) (b0V) (Memref.isWhole_whole _) (b1V) (Memref.isWhole_whole _) (aV) (Memref.isWhole_whole _) (sS) (Memref.isWhole_whole _) (sL) (Memref.isWhole_whole _) (sI) (Memref.isWhole_whole _) cc0_scratch6 cc0_scratch7 cc0_scoped0 cc0_scoped1 cc0_scoped2 cc0_scoped3 v14 (g 14) (g 15) (g 16) (g 17) (g 18) (g 19) (g 20) (g 21) v132 v133
  let v217 : FVec F S16 .f32 ← k0_part134 L (xV) (Memref.isWhole_whole _) (stV) (Memref.isWhole_whole _) (lnV) (Memref.isWhole_whole _) (ivV) (Memref.isWhole_whole _) (oV) (Memref.isWhole_whole _) (b0V) (Memref.isWhole_whole _) (b1V) (Memref.isWhole_whole _) (aV) (Memref.isWhole_whole _) (sS) (Memref.isWhole_whole _) (sL) (Memref.isWhole_whole _) (sI) (Memref.isWhole_whole _) cc0_scratch6 cc0_scratch7 cc0_scoped0 cc0_scoped1 cc0_scoped2 cc0_scoped3 v14 (g 22) (g 23) (g 24) (g 25) (g 26) (g 27) (g 28) (g 29) (g 30) v176
  Prog.lift (.store (aV) (Rect.unit (s := S512) ![480] S16.size inb_S512_S16_480) (k0_pay1 v217) Finset.univ (View.stores_vmem_bits_univ h_S16 rfl) (.inl rfl))
  let v223 : Vec F S16 .f32 ← Prog.lift (.load (aV) (Rect.unit (s := S512) ![496] S16.size inb_S512_S16_496).toLoadRect (View.loadsAt_vmem h_S16))
  Prog.lift (.store (aV) (Rect.unit (s := S512) ![496] S16.size inb_S512_S16_496) (k0_pay2 v14 (g 31)) Finset.univ (View.stores_vmem_bits_univ h_S16 rfl) (.inl rfl))
  let v229_r3 : Memref sig .scVector .hbm S1x1x512 .f32 := (oV).slice (Rect.unit (s := S16x2x512) (k0_off137 L) S1x1x512.size (k0_off137_inb L)) (fun _ => rfl)
  let v230_r3 : Memref sig .scVector .hbm S512 .f32 := v229_r3.squeeze S512 squeezes_S1x1x512_S512
  Prog.lift (.enqueueDma (aV) (.here v230_r3) (.dma cc0_scoped3.sem) (Memref.isWhole_whole cc0_scratch2).wordExact ((View.wordExact_bits rfl).reshape _ _) ⟨Or.inl rfl, trivial⟩)
  let v233_r3 : Memref sig .scVector .hbm S1x1x512 .f32 := (oV).slice (Rect.unit (s := S16x2x512) (k0_off137 L) S1x1x512.size (k0_off137_inb L)) (fun _ => rfl)
  let v234_r3 : Memref sig .scVector .hbm S512 .f32 := v233_r3.squeeze S512 squeezes_S1x1x512_S512
  Prog.lift (.waitDma2 cc0_scoped3.sem (aV) v234_r3 (Memref.isWhole_whole cc0_scratch2).wordExact ((View.wordExact_bits rfl).reshape _ _))
  pure ⟨⟩

/-- The register an element of the row comes from, and its lane there. -/
def regOf (y : S512.Idx) : Fin 32 := ⟨(y 0).val / 16, by have h : (y 0).val < 512 := (y 0).isLt; omega⟩
def laneOf (y : S512.Idx) : S16.Idx := fun a => ⟨(y 0).val % 16, by rw [Subsingleton.elim a 0]; exact Nat.mod_lt _ (by decide)⟩

/-- All the stores, the last first. -/
def storedAll (g : Fin 32 → Lane F) (v14 : F .f32) : List (View.Piece (Elt F) S512 .f32) := (List.finRange 32).reverse.map (stored v14 g)

/-- The row after all the stores. -/
theorem read_stored (g : Fin 32 → Lane F) (v14 : F .f32) (f : (aV).view.ty.Contents (Elt F)) (y : S512.Idx) :
    (aV).view.read (Elt F) ((aV).view.writes (Elt F) f (storedAll g v14)) y = scaled v14 (g (regOf y)) (laneOf y) := by
  refine (aV).view.read_writes_apply_of_pieces f (fun y => scaled v14 (g (regOf y)) (laneOf y)) _ ?_ y ?_
  · intro p hp x
    obtain ⟨l, -, rfl⟩ := List.mem_map.mp hp
    have hx : (x 0).val < 16 := (x 0).isLt
    have e0 : (((stored v14 g l).1.emb x) 0).val = 16 * l.val + 1 * (x 0).val := rfl
    have e1 : regOf ((stored v14 g l).1.emb x) = l := by
      refine Fin.ext ?_
      show (((stored v14 g l).1.emb x) 0).val / 16 = l.val
      omega
    have e2 : laneOf ((stored v14 g l).1.emb x) = x := by
      funext a
      rw [Subsingleton.elim a 0]
      refine Fin.ext ?_
      show (((stored v14 g l).1.emb x) 0).val % 16 = (x 0).val
      omega
    show scaled v14 (g l) x = scaled v14 (g (regOf ((stored v14 g l).1.emb x))) (laneOf ((stored v14 g l).1.emb x))
    rw [e1, e2]
  · refine ⟨stored v14 g (regOf y), List.mem_map.mpr ⟨regOf y, List.mem_reverse.mpr (List.mem_finRange _), rfl⟩, ?_⟩
    have h : (stored v14 g (regOf y)).1.emb (laneOf y) = y := by
      refine (stored v14 g (regOf y)).1.emb_eq_of_coords _ y fun a => ?_
      rw [Subsingleton.elim a 0]
      show (y 0).val = 16 * ((y 0).val / 16) + 1 * ((y 0).val % 16)
      omega
    rw [← Rect.map_emb_univ]
    exact Finset.mem_map.mpr ⟨laneOf y, Finset.mem_univ _, h⟩

set_option maxRecDepth 20000 in
set_option maxHeartbeats 2000000 in
theorem rest_run (g : Fin 32 → Lane F) (v14 : F .f32) (f : Buf (Elt F) ((aV).view.loc (thr d L))) (go : (oPart L).view.ty.Contents (Elt F)) :
    iprop(Transfers.MayWaits (thr d L) (default : HIx 1) O ∗ owed d L O W
      ∗ ((aV).view.loc (thr d L) ↦{fullShare} (aV).view.writes (Elt F) f [stored v14 g 4, stored v14 g 3, stored v14 g 2, stored v14 g 1, stored v14 g 0])
      ∗ semVal (thr d L, SemLoc.dma cc0_scoped3.sem) 0 ∗ ((oPart L).view.loc (thr d L) ↦[(oPart L).view.set]{fullShare} go))
      ⊢ wp frame (wpE (defs₀ (F := F)) 𝒱₀ (thr d L) none) Set.univ (restProg L g v14)
          fun _ => iprop(owed d L O W ∗ (∃ f, (aV).view.loc (thr d L) ↦{fullShare} f) ∗ semVal (thr d L, SemLoc.dma cc0_scoped3.sem) 0
            ∗ ∃ fo, ⌜∀ (l : Fin 32) (j : S16.Idx) (y : S512.Idx), (∀ a, (y a).val = 16 * l.val + (j 0).val) →
                (oPart L).view.read (Elt F) fo y = scaled v14 (g l) j⌝ ∗ (oPart L).view.loc (thr d L) ↦[(oPart L).view.set]{fullShare} fo) := by
  unfold restProg
  iintro ⟨#Hmw, ⟨%W', %hW', HO⟩, Ha, Hc3, Ho⟩
  sl_exec
  sl_step
  isplitl [HO]
  · iexists _
    isplitr
    swap
    · iexact HO
    · ipureintro
      exact owed_insert _ hW'
  isplitl [Ha]
  · iexists _
    iexact Ha
  isplitl [Hc3]; · iexact Hc3
  iexists _
  isplitr
  swap
  · iexact Ho
  · ipureintro
    intro l j y hy
    have hall : rest_run.sl.Ha_32 g v14 = storedAll g v14 := rfl
    have hj : (j 0).val < 16 := (j 0).isLt
    have hy0 := hy 0
    have el : regOf y = l := Fin.ext (show (y 0).val / 16 = l.val by omega)
    have ej : laneOf y = j := by
      funext a
      rw [Subsingleton.elim a 0]
      exact Fin.ext (show (y 0).val % 16 = (j 0).val by omega)
    refine ((oPart L).view.read_writes_cons_hit_of_coords go (Rect.whole S512) _ [] y y fun a => ?_).trans ?_
    · show (y a).val = 0 + 1 * (y a).val
      omega
    delta rest_run.sl.dma54
    rw [hall]
    refine (read_stored g v14 f y).trans ?_
    rw [el, ej]

end Cert.SparseKernelIdeal.Pool

end
-- ==== Proof.SparseTile.lean ====
/-
  A tile's whole run: the first steps, the loop, the stores, and the copy of the sums to the result.
-/
module

public import proofs.«01_k».proof.Proof.SparseRest

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

variable (d : Dev nD) (L : grid0.Coords) (h : Buf (Elt F) ((xV).view.loc (thr d L))) (qs q q1' : PosShare TreeShare)
    (O : CellTallies nD τ sig (HIx 1)) (W : Waits sig (HIx 1))
    (fs : Buf (Elt F) ((stV).view.loc (thr d L))) (fl : Buf (Elt F) ((lnV).view.loc (thr d L))) (fi : Buf (Elt F) ((ivV).view.loc (thr d L)))

attribute [local irreducible] k0_part130 in
set_option maxRecDepth 20000 in
set_option maxHeartbeats 2000000 in
theorem body_run (v4 v9 : BitVec 32) (v14 : F .f32) (hr : Rng v4 v9) (e4 : fs (seg L) = v4) (e9 : fl (seg L) = v9) (e14 : fi (seg L) = v14) (go : (oPart L).view.ty.Contents (Elt F)) :
    iprop(Transfers.MayWaits (thr d L) (default : HIx 1) O ∗ owed d L O W
      ∗ (((stV).view.loc (thr d L) ↦{qs} fs) ∗ ((lnV).view.loc (thr d L) ↦{qs} fl) ∗ ((ivV).view.loc (thr d L) ↦{qs} fi)
        ∗ ((xV).view.loc (thr d L) ↦{q} h) ∗ ((xV).view.loc (thr d L) ↦{q1'} h))
      ∗ ((oPart L).view.loc (thr d L) ↦[(oPart L).view.set]{fullShare} go)
      ∗ ((∃ f, (b0V).view.loc (thr d L) ↦{fullShare} f) ∗ (∃ f, (b1V).view.loc (thr d L) ↦{fullShare} f) ∗ (∃ f, (aV).view.loc (thr d L) ↦{fullShare} f)
        ∗ (∃ f, (sS).view.loc (thr d L) ↦{fullShare} f) ∗ (∃ f, (sL).view.loc (thr d L) ↦{fullShare} f) ∗ (∃ f, (sI).view.loc (thr d L) ↦{fullShare} f))
      ∗ (semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0 ∗ semVal (thr d L, SemLoc.dma cc0_scoped2.sem) 0
        ∗ semVal (thr d L, SemLoc.dma cc0_scoped3.sem) 0))
      ⊢ wp frame (wpE (defs₀ (F := F)) 𝒱₀ (thr d L) none) Set.univ
          (cc0_pool_kernel L xV (Memref.isWhole_whole _) stV (Memref.isWhole_whole _) lnV (Memref.isWhole_whole _) ivV (Memref.isWhole_whole _)
            oV (Memref.isWhole_whole _) b0V (Memref.isWhole_whole _) b1V (Memref.isWhole_whole _) aV (Memref.isWhole_whole _) sS (Memref.isWhole_whole _)
            sL (Memref.isWhole_whole _) sI (Memref.isWhole_whole _) cc0_scratch6 cc0_scratch7 cc0_scoped0 cc0_scoped1 cc0_scoped2 cc0_scoped3)
          fun _ => iprop(owed d L O W
            ∗ (((stV).view.loc (thr d L) ↦{qs} fs) ∗ ((lnV).view.loc (thr d L) ↦{qs} fl) ∗ ((ivV).view.loc (thr d L) ↦{qs} fi)
              ∗ ((xV).view.loc (thr d L) ↦{q} h) ∗ ((xV).view.loc (thr d L) ↦{q1'} h))
            ∗ (∃ fo, ⌜Done d L h v4 v9 v14 fo⌝ ∗ (oPart L).view.loc (thr d L) ↦[(oPart L).view.set]{fullShare} fo)
            ∗ ((∃ f, (b0V).view.loc (thr d L) ↦{fullShare} f) ∗ (∃ f, (b1V).view.loc (thr d L) ↦{fullShare} f) ∗ (∃ f, (aV).view.loc (thr d L) ↦{fullShare} f)
              ∗ (∃ f, (sS).view.loc (thr d L) ↦{fullShare} f) ∗ (∃ f, (sL).view.loc (thr d L) ↦{fullShare} f) ∗ (∃ f, (sI).view.loc (thr d L) ↦{fullShare} f))
            ∗ (semVal (thr d L, SemLoc.dma cc0_scratch6.sem) 0 ∗ semVal (thr d L, SemLoc.dma cc0_scratch7.sem) 0
              ∗ semVal (thr d L, SemLoc.dma cc0_scoped0.sem) 0 ∗ semVal (thr d L, SemLoc.dma cc0_scoped1.sem) 0 ∗ semVal (thr d L, SemLoc.dma cc0_scoped2.sem) 0
              ∗ semVal (thr d L, SemLoc.dma cc0_scoped3.sem) 0)) := by
  rw [cc0_pool_kernel_eq_skeleton]
  unfold cc0_pool_kernel_skel
  rw [wp_bind]
  refine BIBase.Entails.trans ?_ (chain d L (iprop(Transfers.MayWaits (thr d L) (default : HIx 1) O
      ∗ ((semVal (thr d L, SemLoc.dma cc0_scratch6.sem) 0 : sProp 𝕄) ∗ semVal (thr d L, SemLoc.dma cc0_scratch7.sem) 0
      ∗ (∃ f, (b0V).view.loc (thr d L) ↦{fullShare} f) ∗ (∃ f, (b1V).view.loc (thr d L) ↦{fullShare} f)
      ∗ ((xV).view.loc (thr d L) ↦{q} h) ∗ ((xV).view.loc (thr d L) ↦{q1'} h)) ∗ (∃ f, (aV).view.loc (thr d L) ↦{fullShare} f)
      ∗ semVal (thr d L, SemLoc.dma cc0_scoped3.sem) 0 ∗ ((oPart L).view.loc (thr d L) ↦[(oPart L).view.set]{fullShare} go)))
    (head_run' d L qs O W xV (Memref.isWhole_whole _) (Memref.isWhole_whole _) (Memref.isWhole_whole _) (Memref.isWhole_whole _)
      oV (Memref.isWhole_whole _) b0V (Memref.isWhole_whole _) b1V (Memref.isWhole_whole _) aV (Memref.isWhole_whole _) (Memref.isWhole_whole _)
      (Memref.isWhole_whole _) (Memref.isWhole_whole _) cc0_scratch6 cc0_scratch7 cc0_scoped3 fs fl fi v4 v9 v14 hr e4 e9 e14) ?_)
  · iintro ⟨#Hmw, HO, ⟨Hs, Hl, Hi, Hx, Hy⟩, Ho, ⟨Hb0, Hb1, Ha, H0, H1, H2⟩, ⟨Hf0, Hf1, Hc0, Hc1, Hc2, Hc3⟩⟩
    isplitl [HO Hs Hl Hi H0 H1 H2 Hc0 Hc1 Hc2]
    · isplitr; · iexact Hmw
      isplitl [HO]; · iexact HO
      isplitl [Hs]; · iexact Hs
      isplitl [Hl]; · iexact Hl
      isplitl [Hi]; · iexact Hi
      isplitl [H0]; · iexact H0
      isplitl [H1]; · iexact H1
      isplitl [H2]; · iexact H2
      isplitl [Hc0]; · iexact Hc0
      isplitl [Hc1]; · iexact Hc1
      iexact Hc2
    isplitr; · iexact Hmw
    isplitl [Hf0 Hf1 Hb0 Hb1 Hx Hy]
    · isplitl [Hf0]; · iexact Hf0
      isplitl [Hf1]; · iexact Hf1
      isplitl [Hb0]; · iexact Hb0
      isplitl [Hb1]; · iexact Hb1
      isplitl [Hx]; · iexact Hx
      iexact Hy
    isplitl [Ha]; · iexact Ha
    isplitl [Hc3]; · iexact Hc3
    iexact Ho
  dsimp only
  rw [wp_bind]
  refine BIBase.Entails.trans ?_ (chain d L (iprop(Transfers.MayWaits (thr d L) (default : HIx 1) O ∗ (owed d L O W
            ∗ ((stV).view.loc (thr d L) ↦{qs} fs) ∗ ((lnV).view.loc (thr d L) ↦{qs} fl) ∗ ((ivV).view.loc (thr d L) ↦{qs} fi)
            ∗ (∃ f, (sS).view.loc (thr d L) ↦{fullShare} f) ∗ (∃ f, (sL).view.loc (thr d L) ↦{fullShare} f) ∗ (∃ f, (sI).view.loc (thr d L) ↦{fullShare} f)
            ∗ semVal (thr d L, SemLoc.dma cc0_scoped0.sem) 0 ∗ semVal (thr d L, SemLoc.dma cc0_scoped1.sem) 0 ∗ semVal (thr d L, SemLoc.dma cc0_scoped2.sem) 0)
      ∗ (∃ f, (aV).view.loc (thr d L) ↦{fullShare} f)
      ∗ semVal (thr d L, SemLoc.dma cc0_scoped3.sem) 0 ∗ ((oPart L).view.loc (thr d L) ↦[(oPart L).view.set]{fullShare} go)))
    (fetch_run d L h q q1' (Memref.isWhole_whole _) stV (Memref.isWhole_whole _) lnV (Memref.isWhole_whole _) ivV (Memref.isWhole_whole _)
      oV (Memref.isWhole_whole _) (Memref.isWhole_whole _) (Memref.isWhole_whole _) (Memref.isWhole_whole _) sS (Memref.isWhole_whole _)
      sL (Memref.isWhole_whole _) sI (Memref.isWhole_whole _) cc0_scoped0 cc0_scoped1 cc0_scoped2 cc0_scoped3 v4 v9 (chk_of L hr) hr _) ?_)
  · iintro ⟨HA, #Hmw, HB, HC⟩
    isplitl [HB]; · iexact HB
    isplitr; · iexact Hmw
    isplitl [HA]; · iexact HA
    iexact HC
  dsimp only
  rw [wp_bind]
  iintro ⟨Hf, #Hmw, ⟨HO, HA⟩, ⟨%f, Ha⟩, HC⟩
  iapply (chain d L (iprop(Transfers.MayWaits (thr d L) (default : HIx 1) O ∗ (((stV).view.loc (thr d L) ↦{qs} fs) ∗ ((lnV).view.loc (thr d L) ↦{qs} fl) ∗ ((ivV).view.loc (thr d L) ↦{qs} fi)
            ∗ (∃ f, (sS).view.loc (thr d L) ↦{fullShare} f) ∗ (∃ f, (sL).view.loc (thr d L) ↦{fullShare} f) ∗ (∃ f, (sI).view.loc (thr d L) ↦{fullShare} f)
            ∗ semVal (thr d L, SemLoc.dma cc0_scoped0.sem) 0 ∗ semVal (thr d L, SemLoc.dma cc0_scoped1.sem) 0 ∗ semVal (thr d L, SemLoc.dma cc0_scoped2.sem) 0)
      ∗ semVal (thr d L, SemLoc.dma cc0_scoped3.sem) 0 ∗ ((oPart L).view.loc (thr d L) ↦[(oPart L).view.set]{fullShare} go)))
    (loop_run d L h q q1' O W (Memref.isWhole_whole _) stV (Memref.isWhole_whole _) lnV (Memref.isWhole_whole _) ivV (Memref.isWhole_whole _)
      oV (Memref.isWhole_whole _) (Memref.isWhole_whole _) (Memref.isWhole_whole _) (Memref.isWhole_whole _) sS (Memref.isWhole_whole _)
      sL (Memref.isWhole_whole _) sI (Memref.isWhole_whole _) cc0_scoped0 cc0_scoped1 cc0_scoped2 cc0_scoped3 v4 v9 (chk_of L hr) v14 hr f) ?_) $$ [Hf HO HA Ha HC]
  · refine BIBase.Entails.trans ?_ ((sep_mono_left (rest_run d L O W (accs d L h v4 v9 start (np v4 v9)) v14 f go)).trans ((wp_frame_r (R := iprop(((stV).view.loc (thr d L) ↦{qs} fs)
      ∗ ((lnV).view.loc (thr d L) ↦{qs} fl) ∗ ((ivV).view.loc (thr d L) ↦{qs} fi)
      ∗ (∃ f, (sS).view.loc (thr d L) ↦{fullShare} f) ∗ (∃ f, (sL).view.loc (thr d L) ↦{fullShare} f) ∗ (∃ f, (sI).view.loc (thr d L) ↦{fullShare} f)
      ∗ semVal (thr d L, SemLoc.dma cc0_scoped0.sem) 0 ∗ semVal (thr d L, SemLoc.dma cc0_scoped1.sem) 0 ∗ semVal (thr d L, SemLoc.dma cc0_scoped2.sem) 0
      ∗ fetches d L h q q1' v4 v9 (np v4 v9))) _ _ _).trans (wp_mono _ _ _ fun _ => ?_)))
    · iintro ⟨⟨Hf, HO, Ha⟩, #Hmw, HA, Hc3, Ho⟩
      isplitl [HO Ha Hc3 Ho]
      · isplitr; · iexact Hmw
        isplitl [HO]; · iexact HO
        isplitl [Ha]; · iexact Ha
        isplitl [Hc3]; · iexact Hc3
        iexact Ho
      icases HA with ⟨Hs, Hl, Hi, H0, H1, H2, Hc0, Hc1, Hc2⟩
      isplitl [Hs]; · iexact Hs
      isplitl [Hl]; · iexact Hl
      isplitl [Hi]; · iexact Hi
      isplitl [H0]; · iexact H0
      isplitl [H1]; · iexact H1
      isplitl [H2]; · iexact H2
      isplitl [Hc0]; · iexact Hc0
      isplitl [Hc1]; · iexact Hc1
      isplitl [Hc2]; · iexact Hc2
      iexact Hf
    · unfold fetches
      rw [if_neg (lt_irrefl _)]
      iintro ⟨⟨HO, Ha, Hc3, Ho⟩, Hs, Hl, Hi, H0, H1, H2, Hc0, Hc1, Hc2, Hf0, Hf1, Hb0, Hb1, Hx, Hy⟩
      isplitl [HO]; · iexact HO
      isplitl [Hs Hl Hi Hx Hy]
      · isplitl [Hs]; · iexact Hs
        isplitl [Hl]; · iexact Hl
        isplitl [Hi]; · iexact Hi
        isplitl [Hx]; · iexact Hx
        iexact Hy
      isplitl [Ho]; · iexact Ho
      isplitl [Hb0 Hb1 Ha H0 H1 H2]
      · isplitl [Hb0]; · iexact Hb0
        isplitl [Hb1]; · iexact Hb1
        isplitl [Ha]; · iexact Ha
        isplitl [H0]; · iexact H0
        isplitl [H1]; · iexact H1
        iexact H2
      isplitl [Hf0]; · iexact Hf0
      isplitl [Hf1]; · iexact Hf1
      isplitl [Hc0]; · iexact Hc0
      isplitl [Hc1]; · iexact Hc1
      isplitl [Hc2]; · iexact Hc2
      iexact Hc3
  isplitl [Hf HO Ha]
  · isplitr; · iexact Hmw
    isplitl [Hf]; · iexact Hf
    isplitl [HO]; · iexact HO
    iexact Ha
  isplitr; · iexact Hmw
  isplitl [HA]; · iexact HA
  iexact HC

end Cert.SparseKernelIdeal.Pool

end
-- ==== Proof.SparsePay.lean ====
/-
  What the call of the SparseCore kernel hands each tile and what a tile hands back: shares of the words and of the array, and
  one of thirty-two parts of the result, which comes back holding the segments' scaled sums.
-/
module

public import proofs.«01_k».proof.Proof.SparseTile

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## The arrays, and what the steps before the call leave in three of them -/

abbrev cuLoc (d : Dev nD) : Loc nD τ sig := (SparseCore.T d).loc main_arg1
abbrev stLoc (d : Dev nD) : Loc nD τ sig := (SparseCore.T d).loc main_v0
abbrev lnLoc (d : Dev nD) : Loc nD τ sig := (SparseCore.T d).loc main_v3
abbrev ivLoc (d : Dev nD) : Loc nD τ sig := (SparseCore.T d).loc main_v6
abbrev oLoc (d : Dev nD) : Loc nD τ sig := (SparseCore.T d).loc main_v7
abbrev rLoc (d : Dev nD) : Loc nD τ sig := (SparseCore.T d).loc main_v8

/-- The segments' starts, lengths and factors, from the bounds. -/
def starts (cu : IVec S17 32) : IVec S16 32 := extractStridedSlice S16 ![0] cu slices_S17_S16_0
def lens (cu : IVec S17 32) : IVec S16 32 := subi (extractStridedSlice S16 ![1] cu slices_S17_S16_1) (extractStridedSlice S16 ![0] cu slices_S17_S16_0)
def invs (cu : IVec S17 32) : FVec F S16 .f32 :=
  Host.divf (broadcastInDim S16 ![] bcast_S_S16 (constant S_ .f32 0x3F800000#32)) (sitofp .f32 (lens cu))

/-- The tile that makes an element of the result, and the element's place in the tile's part. -/
def tileOf (y : S16x2x512.Idx) : grid0.Coords := coordsV (y 1) (y 0)
def segOf (y : S16x2x512.Idx) : S16.Idx := fun a => ⟨(y 0).val, by rw [Subsingleton.elim a 0]; exact (y 0).isLt⟩
def inPart (y : S16x2x512.Idx) : S512.Idx := fun a => ⟨(y 2).val, by rw [Subsingleton.elim a 0]; exact (y 2).isLt⟩

/-- The result, before it is put in two axes: each element is a lane of one of its tile's registers, scaled. -/
def pooled (d : Dev nD) (x : Buf (Elt F) (xLoc d)) (cu : IVec S17 32) : Buf (Elt F) (oLoc d) := fun y =>
  scaled (invs cu (segOf y))
    (accs d (tileOf y) x (starts cu (segOf y)) (lens cu (segOf y)) start (np (starts cu (segOf y)) (lens cu (segOf y))) (regOf (inPart y))) (laneOf (inPart y))

/-! ## A tile's part of the result -/

theorem part_zero (L : grid0.Coords) (y : S512.Idx) : ((oPart L).view.emb y 0).val = (L 1).val := by
  have e : Shape.reshapeEquiv squeezes_S1x1x512_S512.numel_eq y = (fun a => match a with | 0 => ⟨0, Nat.one_pos⟩ | 1 => ⟨0, Nat.one_pos⟩ | 2 => y 0 : S1x1x512.Idx) :=
    Shape.reshapeEquiv_eq_of_rowMajor _ (by
      rw [Shape.rowMajor_val_three, Shape.rowMajor_val_one]
      show ((0 * 1 + 0) * 512 + (y 0).val) = (y 0).val
      omega)
  show ((Rect.unit (s := S16x2x512) (k0_off137 L) S1x1x512.size (k0_off137_inb L)).emb (Shape.reshapeEquiv squeezes_S1x1x512_S512.numel_eq y) 0).val = _
  rw [e]
  show k0_off137 L 0 + 1 * 0 = _
  rw [k0_off137_eq]
  rfl

theorem part_one (L : grid0.Coords) (y : S512.Idx) : ((oPart L).view.emb y 1).val = (L 0).val := by
  have e : Shape.reshapeEquiv squeezes_S1x1x512_S512.numel_eq y = (fun a => match a with | 0 => ⟨0, Nat.one_pos⟩ | 1 => ⟨0, Nat.one_pos⟩ | 2 => y 0 : S1x1x512.Idx) :=
    Shape.reshapeEquiv_eq_of_rowMajor _ (by
      rw [Shape.rowMajor_val_three, Shape.rowMajor_val_one]
      show ((0 * 1 + 0) * 512 + (y 0).val) = (y 0).val
      omega)
  show ((Rect.unit (s := S16x2x512) (k0_off137 L) S1x1x512.size (k0_off137_inb L)).emb (Shape.reshapeEquiv squeezes_S1x1x512_S512.numel_eq y) 1).val = _
  rw [e]
  show k0_off137 L 1 + 1 * 0 = _
  rw [k0_off137_eq]
  rfl

theorem part_two (L : grid0.Coords) (y : S512.Idx) : ((oPart L).view.emb y 2).val = (y 0).val := by
  have e : Shape.reshapeEquiv squeezes_S1x1x512_S512.numel_eq y = (fun a => match a with | 0 => ⟨0, Nat.one_pos⟩ | 1 => ⟨0, Nat.one_pos⟩ | 2 => y 0 : S1x1x512.Idx) :=
    Shape.reshapeEquiv_eq_of_rowMajor _ (by
      rw [Shape.rowMajor_val_three, Shape.rowMajor_val_one]
      show ((0 * 1 + 0) * 512 + (y 0).val) = (y 0).val
      omega)
  show ((Rect.unit (s := S16x2x512) (k0_off137 L) S1x1x512.size (k0_off137_inb L)).emb (Shape.reshapeEquiv squeezes_S1x1x512_S512.numel_eq y) 2).val = _
  rw [e]
  show k0_off137 L 2 + 1 * (y 0).val = _
  rw [k0_off137_eq]
  show 0 + 1 * (y 0).val = _
  omega

/-- The elements of a tile's part. -/
def partSet (c : Fin 2) (s : Fin 16) : Finset S16x2x512.Idx := (oPart (coordsV c s)).view.set

theorem mem_partSet (c : Fin 2) (s : Fin 16) (y : S16x2x512.Idx) : y ∈ partSet c s ↔ (y 0).val = s.val ∧ (y 1).val = c.val := by
  constructor
  · intro h
    obtain ⟨z, rfl⟩ := View.exists_emb_of_mem_set (oPart (coordsV c s)).view h
    exact ⟨part_zero _ z, part_one _ z⟩
  · rintro ⟨h0, h1⟩
    have e : (oPart (coordsV c s)).view.emb (inPart y) = y := funext fun a => Fin.ext (by
      match a with
      | 0 => exact (part_zero _ _).trans h0.symm
      | 1 => exact (part_one _ _).trans h1.symm
      | 2 => exact part_two _ _)
    have h := (oPart (coordsV c s)).view.emb_mem_set (inPart y)
    rw [e] at h
    exact h

theorem parts_disjoint (c : Fin 2) : ∀ s ∈ (Finset.univ : Finset (Fin 16)), ∀ s' ∈ (Finset.univ : Finset (Fin 16)), s ≠ s' → Disjoint (partSet c s) (partSet c s') :=
  fun s _ s' _ h => Finset.disjoint_left.mpr fun y hy hy' => h (Fin.ext (((mem_partSet c s y).mp hy).1.symm.trans ((mem_partSet c s' y).mp hy').1))

/-- One SparseCore's parts. -/
def coreSet (c : Fin 2) : Finset S16x2x512.Idx := Finset.univ.biUnion (partSet c)

theorem cores_disjoint : ∀ c ∈ (Finset.univ : Finset (Fin 2)), ∀ c' ∈ (Finset.univ : Finset (Fin 2)), c ≠ c' → Disjoint (coreSet c) (coreSet c') :=
  fun c _ c' _ h => Finset.disjoint_left.mpr fun y hy hy' => by
    obtain ⟨s, -, hs⟩ := Finset.mem_biUnion.mp hy
    obtain ⟨s', -, hs'⟩ := Finset.mem_biUnion.mp hy'
    exact h (Fin.ext (((mem_partSet c s y).mp hs).2.symm.trans ((mem_partSet c' s' y).mp hs').2))

theorem cores_cover : (Finset.univ : Finset (Fin 2)).biUnion coreSet = Finset.univ :=
  Finset.eq_univ_iff_forall.mpr fun y => Finset.mem_biUnion.mpr ⟨y 1, Finset.mem_univ _,
    Finset.mem_biUnion.mpr ⟨y 0, Finset.mem_univ _, (mem_partSet _ _ y).mpr ⟨rfl, rfl⟩⟩⟩

/-- The result is its thirty-two parts. -/
theorem parts_eq (d : Dev nD) (f : Buf (Elt F) (oLoc d)) :
    (oLoc d ↦{fullShare} f : sProp 𝕄)
      = bigSep Finset.univ fun c : Fin 2 => bigSep Finset.univ fun s : Fin 16 => oLoc d ↦[partSet c s]{fullShare} f := by
  rw [show (bigSep Finset.univ fun c : Fin 2 => bigSep Finset.univ fun s : Fin 16 => (oLoc d ↦[partSet c s]{fullShare} f : sProp 𝕄))
      = bigSep Finset.univ fun c : Fin 2 => oLoc d ↦[coreSet c]{fullShare} f from
    bigSep_congr fun c _ => (pointsTo_biUnion Finset.univ (ℓ := oLoc d) (partSet c) (parts_disjoint c)).symm,
    ← pointsTo_biUnion Finset.univ (ℓ := oLoc d) coreSet cores_disjoint, cores_cover]

/-- The words of a tile's segment. -/
theorem seg_eq (c : Fin 2) (s : Fin 16) (y : S512.Idx) : segOf ((oPart (coordsV c s)).view.emb y) = seg (coordsV c s) :=
  funext fun _ => Fin.ext (part_zero (coordsV c s) y)
theorem tile_eq (c : Fin 2) (s : Fin 16) (y : S512.Idx) : tileOf ((oPart (coordsV c s)).view.emb y) = coordsV c s := funext fun a => Fin.ext (by
  match a with
  | 0 => exact part_one (coordsV c s) y
  | 1 => exact part_zero (coordsV c s) y)
theorem inPart_eq (c : Fin 2) (s : Fin 16) (y : S512.Idx) : inPart ((oPart (coordsV c s)).view.emb y) = y := funext fun a => Fin.ext (by
  rw [Subsingleton.elim a 0]
  exact part_two (coordsV c s) y)

/-- A finished part holds the result there. -/
theorem done_eq (d : Dev nD) (c : Fin 2) (s : Fin 16) (x : Buf (Elt F) (xLoc d)) (cu : IVec S17 32) (fo : Buf (Elt F) (oLoc d))
    (h : Done d (coordsV c s) x (starts cu (seg (coordsV c s))) (lens cu (seg (coordsV c s))) (invs cu (seg (coordsV c s))) fo) :
    ∀ i ∈ partSet c s, fo i = pooled d x cu i := by
  intro i hi
  obtain ⟨y, rfl⟩ := View.exists_emb_of_mem_set (oPart (coordsV c s)).view hi
  have e := h (regOf y) (laneOf y) y fun a => by
    rw [Subsingleton.elim a 0]
    show (y 0).val = 16 * ((y 0).val / 16) + (y 0).val % 16
    omega
  refine Eq.trans ?_ (e.trans ?_)
  · rfl
  · unfold pooled
    rw [seg_eq, tile_eq, inPart_eq]

/-! ## What the call hands each tile, and what a tile hands back -/

/-- A tile's share of an array every tile reads. -/
def tq (q : PosShare TreeShare) (c : Fin 2) (s : Fin 16) : PosShare TreeShare :=
  Transfers.dealOf (Transfers.dealOf q Finset.univ c) Finset.univ s

theorem reads_eq (ℓ : Loc nD τ sig) (q : PosShare TreeShare) (f : Buf (Elt F) ℓ) :
    (ℓ ↦{q} f : sProp 𝕄) = bigSep Finset.univ fun c : Fin 2 => bigSep Finset.univ fun s : Fin 16 => ℓ ↦{tq q c s} f := by
  unfold tq
  rw [Transfers.pointsTo_deal (ℓ := ℓ) (Finset.univ : Finset (Fin 2)) Finset.univ_nonempty q]
  exact bigSep_congr fun c _ => Transfers.pointsTo_deal (ℓ := ℓ) (Finset.univ : Finset (Fin 16)) Finset.univ_nonempty _

/-- The share of the array the tiles read, the other half staying with the caller. -/
abbrev xq (c : Fin 2) (s : Fin 16) : PosShare TreeShare := tq fullShare.right c s

variable (m : (ℓ : Loc nD τ sig) → Buf (Elt F) ℓ)

/-- Handed to a tile: shares of the words and of the array, and its part of the result. -/
def tileIn (d : Dev nD) (c : Fin 2) (s : Fin 16) : sProp 𝕄 :=
  iprop(((stLoc d ↦{tq fullShare c s} starts (m (cuLoc d))) ∗ (lnLoc d ↦{tq fullShare c s} lens (m (cuLoc d))) ∗ (ivLoc d ↦{tq fullShare c s} invs (m (cuLoc d)))
    ∗ (xLoc d ↦{xq c s} m (xLoc d))) ∗ (oLoc d ↦[partSet c s]{fullShare} m (oLoc d)))

/-- Handed back: the part, finished. -/
def tileOut (d : Dev nD) (c : Fin 2) (s : Fin 16) : sProp 𝕄 := oLoc d ↦[partSet c s]{fullShare} pooled d (m (xLoc d)) (m (cuLoc d))

instance tileIn_storable (d : Dev nD) (c : Fin 2) (s : Fin 16) : BI.Storable (upEmb : UEmb _ 𝕄) (tileIn m d c s) := by
  unfold tileIn; infer_instance
instance tileOut_storable (d : Dev nD) (c : Fin 2) (s : Fin 16) : BI.Storable (upEmb : UEmb _ 𝕄) (tileOut m d c s) := by
  unfold tileOut; infer_instance

/-- What the handshakes carry. -/
def P : (K (F := F)).Pay (nD := nD) (Val := Elt F) (Name := ℕ) (U := UU) where
  st := fun q d c => match q with | 0 => bigSep Finset.univ fun s : Fin 16 => tileIn m d c s
  dn := fun q d c => match q with | 0 => bigSep Finset.univ fun s : Fin 16 => tileOut m d c s
  go := fun q d c s => match q with | 0 => tileIn m d c s
  td := fun q d c s => match q with | 0 => tileOut m d c s
  x := fun _ _ => iprop(emp)

instance P_storable : (P (F := F) m).IsStorable where
  st q d c := match q with
    | 0 => (inferInstance : BI.Storable (upEmb : UEmb _ 𝕄) (bigSep Finset.univ fun s : Fin 16 => tileIn m d c s))
  dn q d c := match q with
    | 0 => (inferInstance : BI.Storable (upEmb : UEmb _ 𝕄) (bigSep Finset.univ fun s : Fin 16 => tileOut m d c s))
  go q d c s := match q with | 0 => tileIn_storable m d c s
  td q d c s := match q with | 0 => tileOut_storable m d c s

theorem vecSplit : (K (F := F)).VecSplit' (P m) 0 := by
  intro d c
  show (bigSep Finset.univ fun s : Fin 16 => tileIn m d c s) ⊢ |={Set.univ}=> iprop((bigSep Finset.univ fun s : Fin 16 => tileIn m d c s)
      ∗ ((bigSep Finset.univ fun s : Fin 16 => tileOut m d c s) -∗ (bigSep Finset.univ fun s : Fin 16 => tileOut m d c s)))
  iintro H; imodintro
  isplitl [H]; · iexact H
  iintro H; iexact H

end Cert.SparseKernelIdeal.Pool

end
-- ==== Proof.SparseRows.lean ====
/-
  What one row of one chunk adds to a register, and sums over a segment's rows taken chunk by chunk.
-/
module

public import proofs.«01_k».proof.Proof.SparsePay
public import proofs.«01_k».proof.Proof.Spec

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

/-! ## A register's sixteen elements of a row of a chunk -/

variable (d : Dev nD) (L : grid0.Coords) (h : Buf (Elt F) ((xV).view.loc (thr d L))) (v : BitVec 32)

/-- Where element `j` of row `r` of chunk `n` lies in the array. -/
def place (n : ℕ) (k r : Fin 8) (l : Fin 32) (y : S16.Idx) : S32768x1024.Idx :=
  ix2 ⟨base v n + (8 * k.val + r.val), by have : base v n ≤ 32704 := Nat.min_le_right _ _; omega⟩
    ⟨512 * (L 0).val + (16 * l.val + (y 0).val), by have h0 : (L 0).val < 2 := (L 0).isLt; have h1 : (y 0).val < 16 := (y 0).isLt; omega⟩

theorem piece_at (n : ℕ) (k r : Fin 8) (l : Fin 32) (y : S16.Idx) :
    piece (A := b0V) (d := d) (L := L) (chunk d L h v n) k r l y = h (place L v n k r l y) := by
  unfold piece
  refine (shapeCast_apply _ shapeCasts_S1x16_S16 y (ix2 (0 : Fin 1) (y 0) : S1x16.Idx)
    (by rw [Shape.rowMajor_val_two, Shape.rowMajor_val_one]; show 0 * 16 + (y 0).val = (y 0).val; omega)).trans ?_
  have ho := off_eq k r l
  refine congrArg h (funext fun a => Fin.ext ?_)
  match a with
  | 0 =>
    show base v n + 1 * (off k.val r l 0 + 1 * 0) = base v n + (8 * k.val + r.val)
    rw [ho]
    show base v n + 1 * (8 * k.val + r.val + 1 * 0) = _
    omega
  | 1 =>
    show 512 * (L 0).val + 1 * (off k.val r l 1 + 1 * (y 0).val) = 512 * (L 0).val + (16 * l.val + (y 0).val)
    rw [ho]
    show 512 * (L 0).val + 1 * (16 * l.val + 1 * (y 0).val) = _
    omega

theorem piece_at' (n : ℕ) (k r : Fin 8) (l : Fin 32) (y : S16.Idx) :
    piece (A := b1V) (d := d) (L := L) (chunk' d L h v n) k r l y = h (place L v n k r l y) := by
  unfold piece
  refine (shapeCast_apply _ shapeCasts_S1x16_S16 y (ix2 (0 : Fin 1) (y 0) : S1x16.Idx)
    (by rw [Shape.rowMajor_val_two, Shape.rowMajor_val_one]; show 0 * 16 + (y 0).val = (y 0).val; omega)).trans ?_
  have ho := off_eq k r l
  refine congrArg h (funext fun a => Fin.ext ?_)
  match a with
  | 0 =>
    show base v n + 1 * (off k.val r l 0 + 1 * 0) = base v n + (8 * k.val + r.val)
    rw [ho]
    show base v n + 1 * (8 * k.val + r.val + 1 * 0) = _
    omega
  | 1 =>
    show 512 * (L 0).val + 1 * (off k.val r l 1 + 1 * (y 0).val) = 512 * (L 0).val + (16 * l.val + (y 0).val)
    rw [ho]
    show 512 * (L 0).val + 1 * (16 * l.val + 1 * (y 0).val) = _
    omega

/-! ## A row's weight -/

theorem rowW_toNat : ∀ k r : Fin 8, (rowW k.val r).toNat = 8 * k.val + r.val := by decide +kernel

/-- Row `j` of chunk `n` counts when no chunk before it has it and it lies in the segment `[v, v + len)`. -/
theorem wgt_eq (v len : BitVec 32) (hr : Rng v len) (n : ℕ) (hn : n ≤ 1000) (k r : Fin 8) :
    wgt (F := Ideal) len (shW v n) (bsW v n) (rowW k.val r)
      = (((if v.toNat / 8 * 8 + 64 * n ≤ base v n + (8 * k.val + r.val) ∧ v.toNat ≤ base v n + (8 * k.val + r.val)
          ∧ ((base v n + (8 * k.val + r.val) : ℕ) : ℤ) < v.toNat + len.toInt then 1 else 0 : ℝ)) : EReal) := by
  have hk := k.isLt
  have hr8 := r.isLt
  have hv := hr.start
  have hl := hr.lo
  have hh := hr.hi
  have hbl : base v n ≤ 32704 := Nat.min_le_right _ _
  have hbr : base v n ≤ v.toNat / 8 * 8 + 64 * n := Nat.min_le_left _ _
  have hR := rowAt_toNat hv hn
  have hM := base_eq hv hn
  have hw : (rowW k.val r).toNat = 8 * k.val + r.val := rowW_toNat k r
  have hsh : (shW v n).toNat = v.toNat / 8 * 8 + 64 * n - base v n := by
    unfold shW
    show (rowAt v n - Scalar.minsi (rowAt v n) 32704#32).toNat = _
    rw [BitVec.toNat_sub, hM, hR]
    omega
  have hp : (Scalar.addi (bsW v n) (rowW k.val r)).toInt = ((base v n + (8 * k.val + r.val) : ℕ) : ℤ) - v.toNat := by
    unfold bsW
    show (Scalar.minsi (rowAt v n) 32704#32 - v + rowW k.val r).toInt = _
    rw [BitVec.toInt_add, BitVec.toInt_sub, BitVec.toInt_eq_toNat_cond, BitVec.toInt_eq_toNat_cond, BitVec.toInt_eq_toNat_cond, hM, hw]
    simp only [Int.bmod_def]
    split <;> split <;> split <;> omega
  have c1 : Scalar.cmpi .sge (rowW k.val r) (shW v n) = 1#1 ↔ v.toNat / 8 * 8 + 64 * n ≤ base v n + (8 * k.val + r.val) := by
    have e1 : (rowW k.val r).toInt = (rowW k.val r).toNat := by rw [BitVec.toInt_eq_toNat_cond]; split <;> omega
    have e2 : (shW v n).toInt = (shW v n).toNat := by rw [BitVec.toInt_eq_toNat_cond]; split <;> omega
    show BitVec.ofBool ((shW v n).sle (rowW k.val r)) = 1#1 ↔ _
    rw [StableHlo.Predicate.ofBool_eq_one_iff, BitVec.sle_iff_toInt_le, e1, e2, hw, hsh]
    omega
  have c2 : Scalar.cmpi .sge (Scalar.addi (bsW v n) (rowW k.val r)) 0#32 = 1#1 ↔ v.toNat ≤ base v n + (8 * k.val + r.val) := by
    show BitVec.ofBool ((0#32 : BitVec 32).sle (Scalar.addi (bsW v n) (rowW k.val r))) = 1#1 ↔ _
    rw [StableHlo.Predicate.ofBool_eq_one_iff, BitVec.sle_iff_toInt_le, hp, show (0#32 : BitVec 32).toInt = 0 from rfl]
    omega
  have c3 : Scalar.cmpi .slt (Scalar.addi (bsW v n) (rowW k.val r)) len = 1#1 ↔ ((base v n + (8 * k.val + r.val) : ℕ) : ℤ) < v.toNat + len.toInt := by
    show BitVec.ofBool ((Scalar.addi (bsW v n) (rowW k.val r)).slt len) = 1#1 ↔ _
    rw [StableHlo.Predicate.ofBool_eq_one_iff, BitVec.slt_iff_toInt_lt, hp]
    omega
  unfold wgt
  show (if IntOp.andi (IntOp.andi _ _) _ = 1#1 then Ideal.ofBits .f32 0x3F800000#32 else Ideal.ofBits .f32 0x00000000#32) = _
  rw [Ideal.ofBits_one_f32, Ideal.ofBits_zero_f32]
  by_cases hc : v.toNat / 8 * 8 + 64 * n ≤ base v n + (8 * k.val + r.val) ∧ v.toNat ≤ base v n + (8 * k.val + r.val)
      ∧ ((base v n + (8 * k.val + r.val) : ℕ) : ℤ) < v.toNat + len.toInt
  · rw [if_pos hc, if_pos (IntOp.andi_eq_one.mpr ⟨IntOp.andi_eq_one.mpr ⟨c1.mpr hc.1, c2.mpr hc.2.1⟩, c3.mpr hc.2.2⟩)]
    rfl
  · rw [if_neg hc, if_neg fun q => hc ?_]
    · rfl
    · obtain ⟨q1, q3⟩ := IntOp.andi_eq_one.mp q
      obtain ⟨q1, q2⟩ := IntOp.andi_eq_one.mp q1
      exact ⟨c1.mp q1, c2.mp q2, c3.mp q3⟩

/-! ## Sums over a segment's rows, chunk by chunk -/

/-- A row's value where it lies in `[a, b)`, else zero. -/
def within (f : ℕ → ℝ) (a b R : ℕ) : ℝ := if a ≤ R ∧ R < b then f R else 0

/-- A chunk moved back to fit the array adds what the rows at its place add. -/
theorem sum_chunk (f : ℕ → ℝ) (a b A B : ℕ) (hB : B = min A 32704) (hb : b ≤ 32768) :
    (∑ j ∈ Finset.range 64, if A ≤ B + j ∧ a ≤ B + j ∧ B + j < b then f (B + j) else 0) = ∑ R ∈ Finset.Ico A (A + 64), within f a b R := by
  have e : (∑ j ∈ Finset.range 64, if A ≤ B + j ∧ a ≤ B + j ∧ B + j < b then f (B + j) else 0)
      = ∑ R ∈ Finset.Ico B (B + 64), if A ≤ R then within f a b R else 0 := by
    rw [Finset.sum_Ico_eq_sum_range]
    simp only [Nat.add_sub_cancel_left]
    refine Finset.sum_congr rfl fun j _ => ?_
    unfold within
    by_cases h1 : A ≤ B + j <;> simp [h1]
  rw [e, ← Finset.sum_filter]
  refine Finset.sum_subset (fun R hR => ?_) fun R hR hn => ?_
  · simp only [Finset.mem_filter, Finset.mem_Ico] at hR ⊢
    omega
  · simp only [Finset.mem_filter, Finset.mem_Ico] at hR hn
    unfold within
    rw [if_neg (by omega)]

/-- Rows outside the segment add nothing. -/
theorem sum_within (f : ℕ → ℝ) (a b A B : ℕ) (hA : A ≤ a) (hB : b ≤ B) : ∑ R ∈ Finset.Ico A B, within f a b R = ∑ R ∈ Finset.Ico a b, f R := by
  refine (Finset.sum_subset (s₁ := Finset.Ico a b) (fun R hR => ?_) fun R _ hn => ?_).symm.trans (Finset.sum_congr rfl fun R hR => ?_)
  · simp only [Finset.mem_Ico] at hR ⊢
    omega
  · simp only [Finset.mem_Ico] at hn
    unfold within
    rw [if_neg (by omega)]
  · simp only [Finset.mem_Ico] at hR
    unfold within
    rw [if_pos (by omega)]

end Cert.SparseKernelIdeal.Pool

end
-- ==== Proof.SparseSums.lean ====
/-
  What a register holds after all the chunks, for real numbers: its column's sum over the segment's rows.
-/
module

public import proofs.«01_k».proof.Proof.SparseRows

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

/-! ## A pass over a buffer of real numbers -/

section Pass
variable {A : Memref sig .scVector .vmem S64x512 .f32} {d : Dev nD} {L : grid0.Coords} (g : Buf (Elt Ideal) (A.view.loc (thr d L))) (len sh bs : BitVec 32)
  (l : Fin 32) (y : S16.Idx) (e w : ℕ → ℝ)

theorem addRow_real (k r : Fin 8) (hp : piece (F := Ideal) g k r l y = ((e (8 * k.val + r.val) : ℝ) : EReal))
    (hw : wgt (F := Ideal) len sh bs (rowW k.val r) = ((w (8 * k.val + r.val) : ℝ) : EReal)) (a : Lane Ideal) (c : ℝ) (ha : a y = ((c : ℝ) : EReal)) :
    addRow (F := Ideal) g len sh bs k r l a y = ((c + e (8 * k.val + r.val) * w (8 * k.val + r.val) : ℝ) : EReal) := by
  show (a y + piece (F := Ideal) g k r l y * wgt (F := Ideal) len sh bs (rowW k.val r) : EReal) = _
  rw [ha, hp, hw, ← EReal.coe_mul, ← EReal.coe_add]

theorem rowsTo_real (hp : ∀ k r : Fin 8, piece (F := Ideal) g k r l y = ((e (8 * k.val + r.val) : ℝ) : EReal))
    (hw : ∀ k r : Fin 8, wgt (F := Ideal) len sh bs (rowW k.val r) = ((w (8 * k.val + r.val) : ℝ) : EReal)) (a : Lane Ideal) (c : ℝ) (ha : a y = ((c : ℝ) : EReal)) :
    ∀ k : ℕ, k ≤ 8 → rowsTo (F := Ideal) g len sh bs l a k y = ((c + ∑ j ∈ Finset.range (8 * k), e j * w j : ℝ) : EReal) := by
  intro k
  induction k with
  | zero =>
    intro _
    rw [Nat.mul_zero, Finset.sum_range_zero, add_zero]
    exact ha
  | succ k ih =>
    intro hk
    have h0 := ih (by omega)
    have hs := rowsTo_succ (F := Ideal) g len sh bs l a ⟨k, by omega⟩
    refine (congrFun hs y).trans ?_
    unfold addRows
    have s := fun (r : Fin 8) (b : Lane Ideal) (c : ℝ) (hb : b y = ((c : ℝ) : EReal)) =>
      addRow_real g len sh bs l y e w ⟨k, by omega⟩ r (hp _ r) (hw _ r) b c hb
    refine (s 7 _ _ (s 6 _ _ (s 5 _ _ (s 4 _ _ (s 3 _ _ (s 2 _ _ (s 1 _ _ (s 0 _ _ h0)))))))).trans ?_
    rw [show 8 * (k + 1) = 8 * k + 7 + 1 from by omega]
    simp only [Finset.sum_range_succ]
    congr 1
    show c + _ + e (8 * k + 0) * w (8 * k + 0) + e (8 * k + 1) * w (8 * k + 1) + e (8 * k + 2) * w (8 * k + 2) + e (8 * k + 3) * w (8 * k + 3)
      + e (8 * k + 4) * w (8 * k + 4) + e (8 * k + 5) * w (8 * k + 5) + e (8 * k + 6) * w (8 * k + 6) + e (8 * k + 7) * w (8 * k + 7) = _
    rw [Nat.add_zero]
    ring

end Pass

/-! ## A register's sums -/

variable (d : Dev nD) (L : grid0.Coords) (x : Buf (Elt Ideal) (xLoc d)) (v len : BitVec 32)

/-- The column of the array a lane of a register sums. -/
def colOf (l : Fin 32) (y : S16.Idx) : Fin 1024 :=
  ⟨512 * (L 0).val + (16 * l.val + (y 0).val), by have h0 : (L 0).val < 2 := (L 0).isLt; have h1 : (y 0).val < 16 := (y 0).isLt; omega⟩

/-- Whether a pass over chunk `n` adds the chunk's row `j`: no chunk before has the row, and the segment does. -/
def took (n j : ℕ) : ℝ :=
  if v.toNat / 8 * 8 + 64 * n ≤ base v n + j ∧ v.toNat ≤ base v n + j ∧ ((base v n + j : ℕ) : ℤ) < v.toNat + len.toInt then 1 else 0

/-- A pass over chunk `n` adds the segment's rows in it that no chunk before has. -/
theorem pass_sum (f : ℕ → ℝ) (hr : Rng v len) (b : ℕ) (hb : (b : ℤ) = v.toNat + len.toInt) (hb' : b ≤ 32768) (n : ℕ) :
    (∑ j ∈ Finset.range (8 * 8), f (base v n + j) * took v len n j)
      = ∑ R ∈ Finset.Ico (v.toNat / 8 * 8 + 64 * n) (v.toNat / 8 * 8 + 64 * n + 64), within f v.toNat b R := by
  rw [← sum_chunk f v.toNat b (v.toNat / 8 * 8 + 64 * n) (base v n) rfl hb']
  refine Finset.sum_congr rfl fun j _ => ?_
  unfold took
  rw [mul_ite, mul_one, mul_zero]
  refine if_congr ?_ rfl rfl
  rw [← hb]
  constructor <;> intro h <;> exact ⟨h.1, h.2.1, by have := h.2.2; omega⟩

theorem accs_real (hx : ∀ (r : Fin 32768) (c : Fin 1024), x (ix2 r c) = ((xr x r.val c : ℝ) : EReal)) (hr : Rng v len)
    (b : ℕ) (hb : (b : ℤ) = v.toNat + len.toInt) (hb' : b ≤ 32768) (l : Fin 32) (y : S16.Idx) :
    ∀ k : ℕ, k ≤ 257 → accs (F := Ideal) d L x v len start k l y
      = ((∑ R ∈ Finset.Ico (v.toNat / 8 * 8) (v.toNat / 8 * 8 + 128 * k), within (fun R => xr x R (colOf L l y)) v.toNat b R : ℝ) : EReal) := by
  intro k
  induction k with
  | zero =>
    intro _
    rw [Nat.mul_zero, Nat.add_zero, Finset.Ico_self, Finset.sum_empty]
    exact Ideal.ofBits_zero_f32
  | succ k ih =>
    intro hk
    have h0 := ih (by omega)
    have hp := fun (n : ℕ) (k r : Fin 8) => (piece_at (F := Ideal) d L x v n k r l y).trans (hx _ _)
    have hp' := fun (n : ℕ) (k r : Fin 8) => (piece_at' (F := Ideal) d L x v n k r l y).trans (hx _ _)
    have hw := fun (n : ℕ) (hn : n ≤ 1000) (k r : Fin 8) =>
      (show wgt (F := Ideal) len (shW v n) (bsW v n) (rowW k.val r) = ((took v len n (8 * k.val + r.val) : ℝ) : EReal) from wgt_eq v len hr n hn k r)
    have h1 := rowsTo_real (A := b0V) (chunk d L x v (2 * k)) len (shW v (2 * k)) (bsW v (2 * k)) l y
      (fun j => xr x (base v (2 * k) + j) (colOf L l y)) (took v len (2 * k)) (hp (2 * k)) (hw (2 * k) (by omega)) _ _ h0 8 (le_refl _)
    have h2 := rowsTo_real (A := b1V) (chunk' d L x v (2 * k + 1)) len (shW v (2 * k + 1)) (bsW v (2 * k + 1)) l y
      (fun j => xr x (base v (2 * k + 1) + j) (colOf L l y)) (took v len (2 * k + 1)) (hp' (2 * k + 1)) (hw (2 * k + 1) (by omega)) _ _ h1 8 (le_refl _)
    refine h2.trans ?_
    rw [pass_sum v len (fun R => xr x R (colOf L l y)) hr b hb hb' (2 * k), pass_sum v len (fun R => xr x R (colOf L l y)) hr b hb hb' (2 * k + 1)]
    congr 1
    rw [show v.toNat / 8 * 8 + 64 * (2 * k) = v.toNat / 8 * 8 + 128 * k from by omega,
      show v.toNat / 8 * 8 + 64 * (2 * k + 1) = v.toNat / 8 * 8 + 128 * k + 64 from by omega,
      show v.toNat / 8 * 8 + 128 * (k + 1) = v.toNat / 8 * 8 + 128 * k + 64 + 64 from by omega,
      Finset.sum_Ico_consecutive _ (by omega) (by omega), Finset.sum_Ico_consecutive _ (by omega) (by omega)]

end Cert.SparseKernelIdeal.Pool

end
-- ==== Proof.SparsePool.lean ====
/-
  One tile as the launch takes it: its own semaphores and buffers, and its run from what the call hands it to what it hands back.
-/
module

public import proofs.«01_k».proof.Proof.SparsePay

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.SparseKernelIdeal.main_arg0_scv : Memref Cert.SparseKernelIdeal.sig Kind.scVector Space.hbm Cert.SparseKernelIdeal.S32768x1024 EltTy.f32)
local notation "b0V" => (Memref.whole Cert.SparseKernelIdeal.cc0_scratch0 : Memref Cert.SparseKernelIdeal.sig Kind.scVector Space.vmem Cert.SparseKernelIdeal.S64x512 EltTy.f32)
local notation "b1V" => (Memref.whole Cert.SparseKernelIdeal.cc0_scratch1 : Memref Cert.SparseKernelIdeal.sig Kind.scVector Space.vmem Cert.SparseKernelIdeal.S64x512 EltTy.f32)
local notation "aV" => (Memref.whole Cert.SparseKernelIdeal.cc0_scratch2 : Memref Cert.SparseKernelIdeal.sig Kind.scVector Space.vmem Cert.SparseKernelIdeal.S512 EltTy.f32)

local notation "stV" => (Memref.whole Cert.SparseKernelIdeal.main_v0_scv : Memref Cert.SparseKernelIdeal.sig Kind.scVector Space.hbm Cert.SparseKernelIdeal.S16 EltTy.i32)
local notation "lnV" => (Memref.whole Cert.SparseKernelIdeal.main_v3_scv : Memref Cert.SparseKernelIdeal.sig Kind.scVector Space.hbm Cert.SparseKernelIdeal.S16 EltTy.i32)
local notation "ivV" => (Memref.whole Cert.SparseKernelIdeal.main_v6_scv : Memref Cert.SparseKernelIdeal.sig Kind.scVector Space.hbm Cert.SparseKernelIdeal.S16 EltTy.f32)
local notation "oV" => (Memref.whole Cert.SparseKernelIdeal.main_v7_scv : Memref Cert.SparseKernelIdeal.sig Kind.scVector Space.hbm Cert.SparseKernelIdeal.S16x2x512 EltTy.f32)
local notation "sS" => (Memref.whole Cert.SparseKernelIdeal.cc0_scratch3 : Memref Cert.SparseKernelIdeal.sig Kind.scVector Space.vmem Cert.SparseKernelIdeal.S32 EltTy.i32)
local notation "sL" => (Memref.whole Cert.SparseKernelIdeal.cc0_scratch4 : Memref Cert.SparseKernelIdeal.sig Kind.scVector Space.vmem Cert.SparseKernelIdeal.S32 EltTy.i32)
local notation "sI" => (Memref.whole Cert.SparseKernelIdeal.cc0_scratch5 : Memref Cert.SparseKernelIdeal.sig Kind.scVector Space.vmem Cert.SparseKernelIdeal.S32 EltTy.f32)

variable (d : Dev nD) (L : grid0.Coords)

/-! ## A tile's own semaphores and buffers -/

/-- One of the tile's copy semaphores. -/
abbrev cell (d : Dev nD) (L : grid0.Coords) (s : DmaSems sig S_) : GSem nD τ sig := (thr d L, .dma s.sem)

/-- Different semaphores are different cells. -/
theorem cell_ne {s s' : DmaSems sig S_} (h : (SemLoc.dma s.sem : SemLoc sig) ≠ SemLoc.dma s'.sem) : cell d L s ≠ cell d L s' :=
  fun e => h (congrArg Prod.snd e)

/-- What is left of the tile's semaphores beside those the kernel names. -/
def restCells (d : Dev nD) (L : grid0.Coords) : Finset (GSem nD τ sig) :=
  ((((((ownCells (thr d L)).erase (cell d L cc0_scratch6)).erase (cell d L cc0_scratch7)).erase (cell d L cc0_scoped0)).erase (cell d L cc0_scoped1)).erase (cell d L cc0_scoped2)).erase (cell d L cc0_scoped3)

theorem ownSems0_V :
    (ownSems0 (thr d L) : sProp 𝕄)
      = iprop(semVal (cell d L cc0_scratch6) 0 ∗ semVal (cell d L cc0_scratch7) 0 ∗ semVal (cell d L cc0_scoped0) 0 ∗ semVal (cell d L cc0_scoped1) 0 ∗ semVal (cell d L cc0_scoped2) 0 ∗ semVal (cell d L cc0_scoped3) 0
          ∗ bigSep (restCells d L) fun g => semVal g 0) := by
  unfold SparseCore.Cfg.ownSems0 restCells

  rw [SparseCore.bigSep_erase' ((mem_ownCells (g := cell d L cc0_scratch6)).mpr ⟨rfl, by show (SemLoc.dma cc0_scratch6.sem : SemLoc sig).isScoped .scVector = true; decide⟩),
    SparseCore.bigSep_erase' (Finset.mem_erase.mpr ⟨cell_ne d L (by decide), ((mem_ownCells (g := cell d L cc0_scratch7)).mpr ⟨rfl, by show (SemLoc.dma cc0_scratch7.sem : SemLoc sig).isScoped .scVector = true; decide⟩)⟩),
    SparseCore.bigSep_erase' (Finset.mem_erase.mpr ⟨cell_ne d L (by decide), (Finset.mem_erase.mpr ⟨cell_ne d L (by decide), ((mem_ownCells (g := cell d L cc0_scoped0)).mpr ⟨rfl, by show (SemLoc.dma cc0_scoped0.sem : SemLoc sig).isScoped .scVector = true; decide⟩)⟩)⟩),
    SparseCore.bigSep_erase' (Finset.mem_erase.mpr ⟨cell_ne d L (by decide), (Finset.mem_erase.mpr ⟨cell_ne d L (by decide), (Finset.mem_erase.mpr ⟨cell_ne d L (by decide), ((mem_ownCells (g := cell d L cc0_scoped1)).mpr ⟨rfl, by show (SemLoc.dma cc0_scoped1.sem : SemLoc sig).isScoped .scVector = true; decide⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), ((mem_ownCells (g := cell d L cc0_scoped2)).mpr ⟨rfl, by show (SemLoc.dma cc0_scoped2.sem : SemLoc sig).isScoped .scVector = true; decide⟩)⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), ((mem_ownCells (g := cell d L cc0_scoped3)).mpr ⟨rfl, by show (SemLoc.dma cc0_scoped3.sem : SemLoc sig).isScoped .scVector = true; decide⟩)⟩)⟩)⟩)⟩)⟩)]

/-- What is left of the tile's buffers beside those the kernel names. -/
def restRefs (L : grid0.Coords) : Finset (DevRef τ sig) :=
  ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)

theorem ref_ne {b b' : Ref sig .scVector} (h : b ≠ b') : (Proc.scVector (cV L) (jV L)).devRef b ≠ (Proc.scVector (cV L) (jV L)).devRef b' :=
  fun e => h (Proc.devRef_injective _ e)

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ref_ne L (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨ref_ne L (show (cc0_scratch2 : Ref sig .scVector) ≠ cc0_scratch1 by decide), (Finset.mem_erase.mpr ⟨ref_ne L (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨ref_ne L (show (cc0_scratch3 : Ref sig .scVector) ≠ cc0_scratch2 by decide), (Finset.mem_erase.mpr ⟨ref_ne L (show (cc0_scratch3 : Ref sig .scVector) ≠ cc0_scratch1 by decide), (Finset.mem_erase.mpr ⟨ref_ne L (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩),
    SparseCore.bigSep_erase' (Finset.mem_erase.mpr ⟨ref_ne L (show (cc0_scratch4 : Ref sig .scVector) ≠ cc0_scratch3 by decide), (Finset.mem_erase.mpr ⟨ref_ne L (show (cc0_scratch4 : Ref sig .scVector) ≠ cc0_scratch2 by decide), (Finset.mem_erase.mpr ⟨ref_ne L (show (cc0_scratch4 : Ref sig .scVector) ≠ cc0_scratch1 by decide), (Finset.mem_erase.mpr ⟨ref_ne L (show (cc0_scratch4 : Ref sig .scVector) ≠ cc0_scratch0 by decide), (SparseCore.Cfg.mem_ownRefs_of_owner (p := Proc.scVector (cV L) (jV L)) (b := (Proc.scVector (cV L) (jV L)).devRef cc0_scratch4) rfl)⟩)⟩)⟩)⟩),
    SparseCore.bigSep_erase' (Finset.mem_erase.mpr ⟨ref_ne L (show (cc0_scratch5 : Ref sig .scVector) ≠ cc0_scratch4 by decide), (Finset.mem_erase.mpr ⟨ref_ne L (show (cc0_scratch5 : Ref sig .scVector) ≠ cc0_scratch3 by decide), (Finset.mem_erase.mpr ⟨ref_ne L (show (cc0_scratch5 : Ref sig .scVector) ≠ cc0_scratch2 by decide), (Finset.mem_erase.mpr ⟨ref_ne L (show (cc0_scratch5 : Ref sig .scVector) ≠ cc0_scratch1 by decide), (Finset.mem_erase.mpr ⟨ref_ne L (show (cc0_scratch5 : Ref sig .scVector) ≠ cc0_scratch0 by decide), (SparseCore.Cfg.mem_ownRefs_of_owner (p := Proc.scVector (cV L) (jV L)) (b := (Proc.scVector (cV L) (jV L)).devRef cc0_scratch5) rfl)⟩)⟩)⟩)⟩)⟩)]

/-! ## The obligation -/

variable (m : (ℓ : Loc nD τ sig) → Buf (Elt F) ℓ)

set_option maxRecDepth 20000 in
set_option maxHeartbeats 2000000 in
/-- A tile runs from what the call hands it to what it hands back. -/
theorem tile_body (hF : (K (F := F)).Facts) (c : Fin 2) (s : Fin 16)
    (hR : ∀ b, Rng (starts (m (cuLoc d)) b) (lens (m (cuLoc d)) b))
    (O : CellTallies nD τ sig (HIx 1)) (W : Waits sig (HIx 1)) (hO : ∀ g, O g none = 0) :
    iprop(levAts (K (F := F)).L (K (F := F)).lev ∗ emp ∗ tileIn m d c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_pool_kernel (coordsV c s) xV (Memref.isWhole_whole _) stV (Memref.isWhole_whole _) lnV (Memref.isWhole_whole _) ivV (Memref.isWhole_whole _)
            oV (Memref.isWhole_whole _) b0V (Memref.isWhole_whole _) b1V (Memref.isWhole_whole _) aV (Memref.isWhole_whole _) sS (Memref.isWhole_whole _)
            sL (Memref.isWhole_whole _) sI (Memref.isWhole_whole _) cc0_scratch6 cc0_scratch7 cc0_scoped0 cc0_scoped1 cc0_scoped2 cc0_scoped3)
          fun _ => iprop(tileOut m d c s ∗ scopedBufs (thr d (coordsV c s)) ∗ scopedSems0 (thr d (coordsV c s))
            ∗ ∃ W', ⌜∀ p ∈ W', p ∈ W ∨ p.2 = none ∨ p.2 = some (0 : Fin 1)⌝ ∗ owes (thr d (coordsV c s)) O W') := by
  generalize hL : coordsV c s = L
  rw [(K (F := F)).scopedBufs_V hF d (cV L) (jV L), SparseCore.Cfg.scopedSems0_V (Val := Elt F) d (cV L) (jV L), ownSems0_V, ownBufs_V]
  unfold tileIn tileOut
  have hMW : levAts (K (F := F)).L (K (F := F)).lev ⊢ (Transfers.MayWaits (thr d L) (default : HIx 1) O : sProp 𝕄) :=
    (K (F := F)).mayWaits_none (thr := thr d L) hO
  refine BIBase.Entails.trans ?_ ((sep_mono_left (body_run d L (m (xLoc d)) (tq fullShare c s) (xq c s).left (xq c s).right O W
    (starts (m (cuLoc d))) (lens (m (cuLoc d))) (invs (m (cuLoc d))) _ _ _ (hR (seg L)) rfl rfl rfl (m (oLoc d)))).trans
    ((wp_frame_r (R := iprop((bigSep (restRefs L) fun b => iprop(∃ f, ((d, b) : Loc nD τ sig) ↦{fullShare} f)) ∗ bigSep (restCells d L) fun g => semVal g 0)) _ _ _).trans
      (wp_mono _ _ _ fun _ => ?_)))
  · iintro ⟨Hlv, -, ⟨⟨Hs, Hl, Hi, Hx⟩, Ho⟩, ⟨H0, H1, H2, H3, H4, H5, Hbufs⟩, ⟨Hf, Hg, Ha, Hb, Hc, Hd, Hsems⟩, HO⟩
    ihave Hmw := hMW $$ Hlv
    ihave Hx' := (pointsTo_share (PosShare.mem_left_op_right (xq c s))).1 $$ Hx
    icases Hx' with ⟨Hx, Hy⟩
    isplitr [Hbufs Hsems]
    · isplitl [Hmw]; · iexact Hmw
      isplitl [HO]
      · unfold owed
        iexists W
        isplitr
        swap
        · iexact HO
        · ipureintro
          exact fun p hp => .inl hp
      isplitl [Hs Hl Hi Hx Hy]
      · isplitl [Hs]; · iexact Hs
        isplitl [Hl]; · iexact Hl
        isplitl [Hi]; · iexact Hi
        isplitl [Hx]; · iexact Hx
        iexact Hy
      isplitl [Ho]
      · subst hL; iexact Ho
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [Hf]; · iexact Hf
      isplitl [Hg]; · iexact Hg
      isplitl [Ha]; · iexact Ha
      isplitl [Hb]; · iexact Hb
      isplitl [Hc]; · iexact Hc
      iexact Hd
    isplitl [Hbufs]; · iexact Hbufs
    iexact Hsems
  · unfold owed
    iintro ⟨⟨⟨%W', %hW', HO⟩, -, ⟨%fo, %hfo, Ho⟩, ⟨H0, H1, H2, H3, H4, H5⟩, ⟨Hf, Hg, Ha, Hb, Hc, Hd⟩⟩, Hbufs, Hsems⟩
    isplitl [Ho]
    · subst hL
      iapply (BI.BIBase.Entails.of_eq (pointsTo_congr (done_eq d c s (m (xLoc d)) (m (cuLoc d)) fo hfo)))
      iexact Ho
    isplitl [H0 H1 H2 H3 H4 H5 Hbufs]
    · isplitl [H0]; · iexact H0
      isplitl [H1]; · iexact H1
      isplitl [H2]; · iexact H2
      isplitl [H3]; · iexact H3
      isplitl [H4]; · iexact H4
      isplitl [H5]; · iexact H5
      iexact Hbufs
    isplitl [Hf Hg Ha Hb Hc Hd Hsems]
    · isplitl [Hf]; · iexact Hf
      isplitl [Hg]; · iexact Hg
      isplitl [Ha]; · iexact Ha
      isplitl [Hb]; · iexact Hb
      isplitl [Hc]; · iexact Hc
      isplitl [Hd]; · iexact Hd
      iexact Hsems
    iexists W'
    isplitr
    swap
    · iexact HO
    · ipureintro
      exact fun p hp => (hW' p hp).imp id .inl

theorem defs₀_vector (c : Fin τ.nSC) (s : Fin τ.nSub) :
    defs₀ (F := F) (.scVector c s) 0 ()
      = SparseCore.onTile hcore0 hsub0 (fun c s => cc0_pool_kernel (coordsV c s)
          xV (Memref.isWhole_whole _) stV (Memref.isWhole_whole _) lnV (Memref.isWhole_whole _) ivV (Memref.isWhole_whole _)
          oV (Memref.isWhole_whole _) b0V (Memref.isWhole_whole _) b1V (Memref.isWhole_whole _) aV (Memref.isWhole_whole _) sS (Memref.isWhole_whole _)
          sL (Memref.isWhole_whole _) sI (Memref.isWhole_whole _) cc0_scratch6 cc0_scratch7 cc0_scoped0 cc0_scoped1 cc0_scoped2 cc0_scoped3) ⟨⟩ c s := rfl

attribute [local irreducible] cc0_pool_kernel in
set_option maxHeartbeats 400000 in
theorem tileObl (hF : (K (F := F)).Facts) (hR : ∀ d b, Rng (starts (m (cuLoc d)) b) (lens (m (cuLoc d)) b)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d m hF c i (hR d) O W hO

end Cert.SparseKernelIdeal.Pool

end
-- ==== Proof.SparseMain.lean ====
/-
  The whole program with the SparseCore kernel: the host's steps, the call, and what every run ends in.
-/
module

public import proofs.«01_k».proof.Proof.SparsePool

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within wp_seq seq after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's steps -/

/-- The steps before the call. -/
def before : List (HloOp τ sig (Elt F)) :=
  [StableHlo.unary main_arg1 main_v0 ((extractStridedSlice S16 ![0] · slices_S17_S16_0) : (⟨S17, .i32⟩ : BufTy).Contents (Elt F) → (⟨S16, .i32⟩ : BufTy).Contents (Elt F)),
    StableHlo.unary main_arg1 main_v1 ((extractStridedSlice S16 ![1] · slices_S17_S16_1) : (⟨S17, .i32⟩ : BufTy).Contents (Elt F) → (⟨S16, .i32⟩ : BufTy).Contents (Elt F)),
    StableHlo.unary main_arg1 main_v2 ((extractStridedSlice S16 ![0] · slices_S17_S16_0) : (⟨S17, .i32⟩ : BufTy).Contents (Elt F) → (⟨S16, .i32⟩ : BufTy).Contents (Elt F)),
    StableHlo.binary main_v1 main_v2 main_v3 (subi : (⟨S16, .i32⟩ : BufTy).Contents (Elt F) → (⟨S16, .i32⟩ : BufTy).Contents (Elt F) → (⟨S16, .i32⟩ : BufTy).Contents (Elt F)),
    StableHlo.unary main_v3 main_v4 (sitofp .f32 : (⟨S16, .i32⟩ : BufTy).Contents (Elt F) → (⟨S16, .f32⟩ : BufTy).Contents (Elt F)),
    StableHlo.nullary main_cst (constant S_ .f32 0x3F800000#32),
    StableHlo.unary main_cst main_v5 (broadcastInDim S16 ![] bcast_S_S16 : (⟨S_, .f32⟩ : BufTy).Contents (Elt F) → (⟨S16, .f32⟩ : BufTy).Contents (Elt F)),
    StableHlo.binary main_v5 main_v4 main_v6 (Host.divf : (⟨S16, .f32⟩ : BufTy).Contents (Elt F) → (⟨S16, .f32⟩ : BufTy).Contents (Elt F) → (⟨S16, .f32⟩ : BufTy).Contents (Elt F))]

/-- The step after it. -/
abbrev opOut : HloOp τ sig (Elt F) := StableHlo.reshape main_v7 main_v8 (rfl : (.f32 : EltTy) = .f32) shapeCasts_S16x2x512_S16x1024

/-- The host's twelve arrays. -/
def S12 : Finset (DevRef τ sig) :=
  {Proc.devRef .tc main_arg0, Proc.devRef .tc main_arg1, Proc.devRef .tc main_v0, Proc.devRef .tc main_v3, Proc.devRef .tc main_v6, Proc.devRef .tc main_v7, Proc.devRef .tc main_v8, Proc.devRef .tc main_v1, Proc.devRef .tc main_v2, Proc.devRef .tc main_v4, Proc.devRef .tc main_cst, Proc.devRef .tc main_v5}

theorem held_S12 (d : Dev nD) (V : Valuation τ sig (Elt F)) :
    (held (T d) S12 V : sProp 𝕄)
      = iprop(((SparseCore.T d).loc main_arg0 ↦{fullShare} V (Proc.devRef .tc main_arg0 : DevRef τ sig)) ∗ ((SparseCore.T d).loc main_arg1 ↦{fullShare} V (Proc.devRef .tc main_arg1 : DevRef τ sig)) ∗ ((SparseCore.T d).loc main_v0 ↦{fullShare} V (Proc.devRef .tc main_v0 : DevRef τ sig)) ∗ ((SparseCore.T d).loc main_v3 ↦{fullShare} V (Proc.devRef .tc main_v3 : DevRef τ sig)) ∗ ((SparseCore.T d).loc main_v6 ↦{fullShare} V (Proc.devRef .tc main_v6 : DevRef τ sig)) ∗ ((SparseCore.T d).loc main_v7 ↦{fullShare} V (Proc.devRef .tc main_v7 : DevRef τ sig)) ∗ ((SparseCore.T d).loc main_v8 ↦{fullShare} V (Proc.devRef .tc main_v8 : DevRef τ sig)) ∗ ((SparseCore.T d).loc main_v1 ↦{fullShare} V (Proc.devRef .tc main_v1 : DevRef τ sig)) ∗ ((SparseCore.T d).loc main_v2 ↦{fullShare} V (Proc.devRef .tc main_v2 : DevRef τ sig)) ∗ ((SparseCore.T d).loc main_v4 ↦{fullShare} V (Proc.devRef .tc main_v4 : DevRef τ sig)) ∗ ((SparseCore.T d).loc main_cst ↦{fullShare} V (Proc.devRef .tc main_cst : DevRef τ sig)) ∗ ((SparseCore.T d).loc main_v5 ↦{fullShare} V (Proc.devRef .tc main_v5 : DevRef τ sig))) := by
  unfold held S12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The arrays at the launch, before the call, and after it. -/
def V0 (d : Dev nD) : Valuation τ sig (Elt F) := fun b => m (d, b)
def V1 (d : Dev nD) : Valuation τ sig (Elt F) := after (before (F := F)) (V0 m d)
def V2 (d : Dev nD) : Valuation τ sig (Elt F) :=
  Function.update (V1 m d) (Proc.devRef .tc main_v7 : DevRef τ sig) (pooled d (m (xLoc d)) (m (cuLoc d)))

theorem unscoped_held (d : Dev nD) : (unscopedBufs d (fun b => m ((SparseCore.T d).loc b)) : sProp 𝕄) = held (T d) S12 (V0 m d) := by
  rw [held_S12]
  unfold unscopedBufs
  rw [show (Finset.univ.filter fun b : Ref sig .tc => ¬ b.isScoped) = {main_arg0, main_arg1, main_v0, main_v3, main_v6, main_v7, main_v8, main_v1, main_v2, main_v4, main_cst, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl
theorem V1_x (d : Dev nD) : V1 m d (Proc.devRef .tc main_arg0 : DevRef τ sig) = m (xLoc d) := by
  unfold V1 before
  after_results_simp
  rfl
theorem V1_cu (d : Dev nD) : V1 m d (Proc.devRef .tc main_arg1 : DevRef τ sig) = m (cuLoc d) := by
  unfold V1 before
  after_results_simp
  rfl
theorem V1_st (d : Dev nD) : V1 m d (Proc.devRef .tc main_v0 : DevRef τ sig) = starts (m (cuLoc d)) := by
  unfold V1 before
  after_results_simp
  rfl
theorem V1_ln (d : Dev nD) : V1 m d (Proc.devRef .tc main_v3 : DevRef τ sig) = lens (m (cuLoc d)) := by
  unfold V1 before
  after_results_simp
  rfl
theorem V1_iv (d : Dev nD) : V1 m d (Proc.devRef .tc main_v6 : DevRef τ sig) = invs (m (cuLoc d)) := by
  unfold V1 before
  after_results_simp
  rfl
theorem V1_o (d : Dev nD) : V1 m d (Proc.devRef .tc main_v7 : DevRef τ sig) = m (oLoc d) := by
  unfold V1 before
  after_results_simp
  rfl

theorem held_V1 (d : Dev nD) :
    (held (T d) S12 (after (before (F := F)) (V0 m d)) : sProp 𝕄)
      = iprop((xLoc d ↦{fullShare} m (xLoc d)) ∗ (cuLoc d ↦{fullShare} m (cuLoc d)) ∗ (stLoc d ↦{fullShare} starts (m (cuLoc d)))
        ∗ (lnLoc d ↦{fullShare} lens (m (cuLoc d))) ∗ (ivLoc d ↦{fullShare} invs (m (cuLoc d))) ∗ (oLoc d ↦{fullShare} m (oLoc d))
        ∗ (rLoc d ↦{fullShare} V1 m d (Proc.devRef .tc main_v8 : DevRef τ sig)) ∗ ((SparseCore.T d).loc main_v1 ↦{fullShare} V1 m d (Proc.devRef .tc main_v1 : DevRef τ sig)) ∗ ((SparseCore.T d).loc main_v2 ↦{fullShare} V1 m d (Proc.devRef .tc main_v2 : DevRef τ sig)) ∗ ((SparseCore.T d).loc main_v4 ↦{fullShare} V1 m d (Proc.devRef .tc main_v4 : DevRef τ sig)) ∗ ((SparseCore.T d).loc main_cst ↦{fullShare} V1 m d (Proc.devRef .tc main_cst : DevRef τ sig)) ∗ ((SparseCore.T d).loc main_v5 ↦{fullShare} V1 m d (Proc.devRef .tc main_v5 : DevRef τ sig))) := by
  show held (T d) S12 (V1 m d) = _
  rw [held_S12, V1_x, V1_cu, V1_st, V1_ln, V1_iv, V1_o]

/-- The result the host returns: the call's, in two axes. -/
def outv (d : Dev nD) : Buf (Elt F) (rLoc d) := shapeCast S16x1024 (pooled d (m (xLoc d)) (m (cuLoc d))) shapeCasts_S16x2x512_S16x1024

/-- The two arrays the last step is about. -/
def SO : Finset (DevRef τ sig) := {(Proc.devRef .tc main_v7 : DevRef τ sig), (Proc.devRef .tc main_v8 : DevRef τ sig)}

theorem held_SO (d : Dev nD) (V : Valuation τ sig (Elt F)) :
    (held (T d) SO V : sProp 𝕄) = iprop((oLoc d ↦{fullShare} V (Proc.devRef .tc main_v7 : DevRef τ sig)) ∗ (rLoc d ↦{fullShare} V (Proc.devRef .tc main_v8 : DevRef τ sig))) := by
  unfold held SO
  rw [SparseCore.bigSep_insert' (by decide), bigSep_singleton]

theorem V2_o (d : Dev nD) : V2 m d (Proc.devRef .tc main_v7 : DevRef τ sig) = pooled d (m (xLoc d)) (m (cuLoc d)) := Function.update_self _ _ _
theorem V2_r (d : Dev nD) : V2 m d (Proc.devRef .tc main_v8 : DevRef τ sig) = V1 m d (Proc.devRef .tc main_v8 : DevRef τ sig) :=
  Function.update_of_ne (by decide) _ _

theorem held_out (d : Dev nD) :
    (held (T d) SO ((opOut (F := F)).result (V2 m d)) : sProp 𝕄)
      = iprop((oLoc d ↦{fullShare} (opOut (F := F)).result (V2 m d) (Proc.devRef .tc main_v7 : DevRef τ sig)) ∗ (rLoc d ↦{fullShare} outv m d)) := by
  rw [held_SO, show (opOut (F := F)).result (V2 m d) (Proc.devRef .tc main_v8 : DevRef τ sig) = outv m d from
    (StableHlo.reshape_result _ _ _ _ _ _ _).trans (by rw [V2_o]; rfl)]

/-! ## The call's two ends -/

theorem st0_eq (d : Dev nD) :
    (bigSep Finset.univ fun c : Fin ((K (F := F)).nCore 0) => (P m).st 0 d c)
      = iprop(((stLoc d ↦{fullShare} starts (m (cuLoc d))) ∗ (lnLoc d ↦{fullShare} lens (m (cuLoc d))) ∗ (ivLoc d ↦{fullShare} invs (m (cuLoc d)))
        ∗ (xLoc d ↦{fullShare.right} m (xLoc d))) ∗ (oLoc d ↦{fullShare} m (oLoc d))) := by
  show (bigSep Finset.univ fun c : Fin 2 => bigSep Finset.univ fun s : Fin 16 => tileIn m d c s) = _
  unfold tileIn
  simp only [bigSep_sep']
  rw [reads_eq (stLoc d) fullShare, reads_eq (lnLoc d) fullShare, reads_eq (ivLoc d) fullShare, reads_eq (xLoc d) fullShare.right, parts_eq d (m (oLoc d))]

theorem dn0_eq (d : Dev nD) :
    (bigSep Finset.univ fun c : Fin ((K (F := F)).nCore 0) => (P m).dn 0 d c) = (oLoc d ↦{fullShare} pooled d (m (xLoc d)) (m (cuLoc d)) : sProp 𝕄) :=
  (parts_eq d (pooled d (m (xLoc d)) (m (cuLoc d)))).symm

/-! ## The host's thread -/

theorem before_sub : ∀ op ∈ before (F := F), op.bufs ⊆ S12 := by
  intro op h
  simp only [before, List.mem_cons, List.not_mem_nil, or_false] at h
  rcases h with rfl | rfl | rfl | rfl | rfl | rfl | rfl | rfl
  · exact show ({Proc.devRef .tc main_arg1, Proc.devRef .tc main_v0} : Finset (DevRef τ sig)) ⊆ S12 by decide
  · exact show ({Proc.devRef .tc main_arg1, Proc.devRef .tc main_v1} : Finset (DevRef τ sig)) ⊆ S12 by decide
  · exact show ({Proc.devRef .tc main_arg1, Proc.devRef .tc main_v2} : Finset (DevRef τ sig)) ⊆ S12 by decide
  · exact show ({Proc.devRef .tc main_v1, Proc.devRef .tc main_v2, Proc.devRef .tc main_v3} : Finset (DevRef τ sig)) ⊆ S12 by decide
  · exact show ({Proc.devRef .tc main_v3, Proc.devRef .tc main_v4} : Finset (DevRef τ sig)) ⊆ S12 by decide
  · exact show ({Proc.devRef .tc main_cst} : Finset (DevRef τ sig)) ⊆ S12 by decide
  · exact show ({Proc.devRef .tc main_cst, Proc.devRef .tc main_v5} : Finset (DevRef τ sig)) ⊆ S12 by decide
  · exact show ({Proc.devRef .tc main_v5, Proc.devRef .tc main_v4, Proc.devRef .tc main_v6} : Finset (DevRef τ sig)) ⊆ S12 by decide

theorem before_fresh : ∀ op ∈ before (F := F), op.fresh = ∅ := by
  intro op h
  simp only [before, List.mem_cons, List.not_mem_nil, or_false] at h
  rcases h with rfl | rfl | rfl | rfl | rfl | rfl | rfl | rfl <;> rfl

theorem out_sub : (opOut (F := F)).bufs ⊆ SO :=
  show ({Proc.devRef .tc main_v7, Proc.devRef .tc main_v8} : Finset (DevRef τ sig)) ⊆ SO by decide

/-- What the host's thread ends with. -/
abbrev FIN (d : Dev nD) : sProp 𝕄 :=
  iprop((xLoc d ↦{fullShare.left} m (xLoc d)) ∗ (cuLoc d ↦{fullShare} m (cuLoc d)) ∗ (rLoc d ↦{fullShare} outv m d))

theorem main_eq (d : Dev nD) :
    main (F := F) d = (seq (before (F := F)) >>= fun _ => (sc (F := F)).run d 0 >>= fun _ => hlo rfl (opOut (F := F)) (fun _ => .ret ⟨⟩)) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq (defs := (K (F := F)).defs (D (F := F))) (𝒱 := 𝒱) (bd := none) (E := Set.univ) d S12 _ (before (F := F)) before_sub before_fresh (V0 m d)) $$ [Hb Hheld]
  · isplitl [Hb] <;> iassumption
  iintro ⟨Hb, Hheld⟩
  ihave Hh := (BI.BIBase.Entails.of_eq (held_V1 (F := F) m d)) $$ Hheld
  icases Hh with ⟨Hx, Hc, Hs, Hl, Hi, Ho, Hr, -⟩
  ihave Hx' := (pointsTo_share (PosShare.mem_left_op_right fullShare)).1 $$ Hx
  icases Hx' with ⟨Hx, Hy⟩
  simp only [wp_bind]
  iapply ((K (F := F)).wp_run (D (F := F)) 𝒱 (EH := EH) (P := P m) κ d 0) $$ [Hst Hx Hc Hs Hl Hi Ho Hr Hy Hb Hts]
  isplitr; · iexact Hctx
  isplitl [Hst]; · iexact Hst
  isplitl [Hs Hl Hi Hy Ho]
  · rw [st0_eq]
    isplitr [Ho]
    · isplitl [Hs]; · iexact Hs
      isplitl [Hl]; · iexact Hl
      isplitl [Hi]; · iexact Hi
      iexact Hy
    iexact Ho
  iintro ⟨Hst, Hdn⟩
  ihave Ho := (BI.BIBase.Entails.of_eq (dn0_eq m d)) $$ Hdn
  iapply (wp_hlo_within 𝒱 (SparseCore.T d) none Set.univ (op := opOut) (S := SO) out_sub (V := V2 m d)) $$ [Hb Ho Hr]
  · isplitl [Hb]; · iexact Hb
    rw [held_SO, V2_o, V2_r]
    isplitl [Ho]; · iexact Ho
    iexact Hr
  iintro ⟨Hb, Hheld⟩
  ihave Hh := (BI.BIBase.Entails.of_eq (held_out (F := F) m d)) $$ Hheld
  icases Hh with ⟨-, Hr⟩
  rw [wp_ret]; imodintro
  isplitl [Hst]; · iexact Hst
  isplitr [Hb Hts]
  · isplitl [Hx]; · iexact Hx
    isplitl [Hc]; · iexact Hc
    iexact Hr
  isplitl [Hb] <;> iassumption

/-! ## The run -/

/-- What the end of the run leaves in device `d`'s memory. -/
def fq (d : Dev nD) (s' : Phys nD τ sig (Elt F)) : Prop :=
  s'.mem.mem (rLoc d) = outv m d ∧ s'.mem.mem (xLoc d) = m (xLoc d) ∧ s'.mem.mem (cuLoc d) = m (cuLoc d)

theorem hfin (d : Dev nD) (s' : Phys nD τ sig (Elt F)) : iprop(FIN m d ∗ SI s') ⊢ (⌜fq m d s'⌝ : sProp 𝕄) := by
  iintro ⟨⟨Hx, Hc, Hr⟩, HSI⟩
  ihave H := (persistent_entails_right (SI_pointsTo_agree (st := s') (ℓ := xLoc d) (I := Finset.univ) (q := fullShare.left) (f := m (xLoc d)))) $$ [HSI Hx]
  · isplitl [HSI] <;> iassumption
  icases H with ⟨%hx, HSI, -⟩
  ihave H := (persistent_entails_right (SI_pointsTo_agree (st := s') (ℓ := cuLoc d) (I := Finset.univ) (q := fullShare) (f := m (cuLoc d)))) $$ [HSI Hc]
  · isplitl [HSI] <;> iassumption
  icases H with ⟨%hc, HSI, -⟩
  ihave H := (SI_pointsTo_agree (st := s') (ℓ := rLoc d) (I := Finset.univ) (q := fullShare) (f := outv m d)) $$ [HSI Hr]
  · isplitl [HSI] <;> iassumption
  icases H with %hr
  ipureintro
  exact ⟨funext fun i => hr i (Finset.mem_univ i), funext fun i => hx i (Finset.mem_univ i), funext fun i => hc i (Finset.mem_univ i)⟩

/-- What every run of the program ends in. -/
def QC : PUnit × MemSt nD τ sig (Elt F) → Prop := fun r =>
  (∀ c : Dev nD, r.2.mem (rLoc c) = outv m c ∧ r.2.mem (xLoc c) = m (xLoc c) ∧ r.2.mem (cuLoc c) = m (cuLoc c)) ∧ r.2.sem = fun _ => 0

/-- Where the segments' starts and lengths are in range, the program runs and leaves the scaled sums. -/
theorem run_main [∀ e, Nonempty (Elt F e)] (hR : ∀ d b, Rng (starts (m (cuLoc d)) b) (lens (m (cuLoc d)) b)) :
    θ_run (Cert.SparseKernelIdeal.defs (F := F)) (Cert.SparseKernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hR)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.SparseKernelIdeal.Pool

end
-- ==== Proof.SparseRange.lean ====
/-
  What the preconditions say of the segments' starts and lengths.
-/
module

public import proofs.«01_k».proof.Proof.SparsePay
public import proofs.«01_k».proof.Proof.Spec
public import proofs.«01_k».proof.Proof.Gen.Pre_positions
public import proofs.«01_k».proof.Proof.Gen.Pre_segments

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The bounds as the preconditions state them -/

/-- Where every bound is a position of the array or its end, every start and every length is in range. -/
theorem rng_of_le (cu : IVec S17 32) (hB : ∀ i, (cu i).toNat ≤ 32768) (b : S16.Idx) : Rng (starts cu b) (lens cu b) := by
  obtain ⟨i, j, e1, e2⟩ : ∃ i j, starts cu b = cu i ∧ lens cu b = cu j - cu i := ⟨_, _, rfl, rfl⟩
  have hi := hB i
  have hj := hB j
  have hd : (cu j - cu i).toInt = (cu j).toNat - (cu i).toNat := by
    rw [BitVec.toInt_sub, BitVec.toInt_eq_toNat_cond, BitVec.toInt_eq_toNat_cond]
    simp only [Int.bmod_def]
    split <;> split <;> omega
  rw [e1, e2]
  exact ⟨hi, by rw [hd]; omega, by rw [hd]; omega⟩

/-- The precondition of the frames, decoded. -/
theorem le_of_positions (x : FVec F S32768x1024 .f32) (cu : IVec S17 32) (h : Cert.Pre_positions.fn x cu = fun _ => 1#1) (i : S17.Idx) : (cu i).toNat ≤ 32768 := by
  have h0 := congrFun h i
  unfold Cert.Pre_positions.fn at h0
  dsimp only at h0
  obtain ⟨h1, h2⟩ := IntOp.andi_eq_one.mp h0
  pointwise at h1 h2
  word_omega

/-- The precondition of the value claim gives the same. -/
theorem le_of_segs {x : Cert.Spec.SX.Idx → EReal} {cu : Cert.Spec.SC.Idx → BitVec 32} (h : Cert.Spec.Segs x cu) (i : S17.Idx) : (cu i).toNat ≤ 32768 := by
  have e : i = ix1 (i 0) := funext fun a => by rw [Subsingleton.elim a 0]; rfl
  rw [e]
  exact h.le (i 0)

end Cert.SparseKernelIdeal.Pool

end
-- ==== Proof.SparseValue.lean ====
/-
  The program's result for real numbers: the mean of every segment, column by column.
-/
module

public import proofs.«01_k».proof.Proof.SparseSums
public import proofs.«01_k».proof.Proof.SparseMain
public import proofs.«01_k».proof.Proof.SparseRange

@[expose] public section

noncomputable section

namespace Cert.SparseKernelIdeal.Pool

open Cert.SparseKernelIdeal Cert.SparseKernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec

variable (m : (ℓ : Loc nD τ sig) → Buf (Elt Ideal) ℓ) (ρ : Dev nD → PrngReg)

/-- The two arguments, as the launch finds them. -/
abbrev argX (c : Dev nD) : SX.Idx → EReal := m (xLoc c)
abbrev argCu (c : Dev nD) : SC.Idx → BitVec 32 := m (cuLoc c)

/-- The element of the call's result that the host puts at `i`. -/
def src (i : SR.Idx) : S16x2x512.Idx := fun a => match a with
  | 0 => i 0
  | 1 => ⟨(i 1).val / 512, by have h : (i 1).val < 1024 := (i 1).isLt; show (i 1).val / 512 < 2; omega⟩
  | 2 => ⟨(i 1).val % 512, Nat.mod_lt _ (by decide)⟩

theorem outv_src (c : Dev nD) (i : SR.Idx) : outv m c i = pooled c (m (xLoc c)) (m (cuLoc c)) (src i) := by
  unfold outv
  refine shapeCast_apply _ shapeCasts_S16x2x512_S16x1024 i (src i) ?_
  rw [Shape.rowMajor_val_three, Shape.rowMajor_val_two]
  show ((i 0).val * 2 + (i 1).val / 512) * 512 + (i 1).val % 512 = (i 0).val * 1024 + (i 1).val
  omega

theorem starts_at (cu : IVec S17 32) (b : S16.Idx) : starts cu b = cu (ix1 (b 0).castSucc) := by
  refine extractStridedSlice_apply ![0] cu slices_S17_S16_0 b (ix1 (b 0).castSucc) fun a => ?_
  rw [Subsingleton.elim a 0]
  show (b 0).val = 0 + (b 0).val
  omega

theorem lens_at (cu : IVec S17 32) (b : S16.Idx) : lens cu b = cu (ix1 (b 0).succ) - cu (ix1 (b 0).castSucc) := by
  have h1 : extractStridedSlice S16 ![1] cu slices_S17_S16_1 b = cu (ix1 (b 0).succ) := by
    refine extractStridedSlice_apply ![1] cu slices_S17_S16_1 b (ix1 (b 0).succ) fun a => ?_
    rw [Subsingleton.elim a 0]
    show (b 0).val + 1 = 1 + (b 0).val
    omega
  show extractStridedSlice S16 ![1] cu slices_S17_S16_1 b - starts cu b = _
  rw [h1, starts_at]

/-- The factor of a segment: one over its length. -/
theorem invs_at (cu : IVec S17 32) (b : S16.Idx) (n : ℝ) (hn : n ≠ 0) (h : (((lens cu b).toInt : ℝ)) = n) :
    invs (F := Ideal) cu b = ((1 / n : ℝ) : EReal) := by
  show Ideal.div (Ideal.ofBits .f32 0x3F800000#32) ((((lens cu b).toInt : ℝ)) : EReal) = _
  rw [Ideal.ofBits_one_f32, h, Ideal.div_coe hn, one_mul]

/-- The host's result is every segment's mean. -/
theorem outv_eq (c : Dev nD) (hs : Segs (argX m c) (argCu m c)) : outv m c = mean (argX m c) (argCu m c) := by
  funext i
  rw [outv_src]
  have hc : (i 1).val < 1024 := (i 1).isLt
  have hS := starts_at (m (cuLoc c)) (segOf (src i))
  have hL := lens_at (m (cuLoc c)) (segOf (src i))
  have hR := rng_of_le (m (cuLoc c)) (le_of_segs hs) (segOf (src i))
  have hlt := hs.lt (i 0)
  have hlo : (starts (m (cuLoc c)) (segOf (src i))).toNat = lo (argCu m c) (i 0) := congrArg BitVec.toNat hS
  have hhi : hi (argCu m c) (i 0) ≤ 32768 := hs.le (i 0).succ
  have hlen : (lens (m (cuLoc c)) (segOf (src i))).toInt = (hi (argCu m c) (i 0) : ℤ) - lo (argCu m c) (i 0) := by
    have e1 : (argCu m c (ix1 (i 0).succ)).toNat = hi (argCu m c) (i 0) := rfl
    have e2 : (argCu m c (ix1 (i 0).castSucc)).toNat = lo (argCu m c) (i 0) := rfl
    rw [hL]
    show (argCu m c (ix1 (i 0).succ) - argCu m c (ix1 (i 0).castSucc)).toInt = _
    rw [BitVec.toInt_sub, BitVec.toInt_eq_toNat_cond, BitVec.toInt_eq_toNat_cond, e1, e2]
    simp only [Int.bmod_def]
    split <;> split <;> omega
  have hne : ((hi (argCu m c) (i 0) : ℝ) - (lo (argCu m c) (i 0) : ℝ)) ≠ 0 := sub_ne_zero.mpr (by exact_mod_cast hlt.ne')
  have hcol : colOf (tileOf (src i)) (regOf (inPart (src i))) (laneOf (inPart (src i))) = i 1 := Fin.ext (by
    show 512 * ((i 1).val / 512) + (16 * ((i 1).val % 512 / 16) + (i 1).val % 512 % 16) = (i 1).val
    omega)
  have hacc := accs_real c (tileOf (src i)) (m (xLoc c)) _ _ (fun r d => hs.x_eq r d) hR (hi (argCu m c) (i 0)) (by rw [hlo, hlen]; omega) hhi
    (regOf (inPart (src i))) (laneOf (inPart (src i))) (np (starts (m (cuLoc c)) (segOf (src i))) (lens (m (cuLoc c)) (segOf (src i)))) (np_le hR)
  rw [hcol, hlo, sum_within _ _ _ _ _ (by omega) (by
    unfold np pairs
    rw [hlen, hlo]
    omega)] at hacc
  have hinv := invs_at (m (cuLoc c)) (segOf (src i)) _ hne (by rw [hlen]; push_cast; rfl)
  unfold pooled scaled k0_pay1166
  rw [shapeCast_self]
  show (accs (F := Ideal) c (tileOf (src i)) (m (xLoc c)) _ _ start _ (regOf (inPart (src i))) (laneOf (inPart (src i))) * invs (F := Ideal) (m (cuLoc c)) (segOf (src i)) : EReal) = _
  rw [hacc, hinv, ← EReal.coe_mul, mul_one_div]
  rfl

/-- The program runs and ends with the means. -/
theorem run_mean (hs : ∀ c, Segs (argX m c) (argCu m c)) :
    θ_run (Cert.SparseKernelIdeal.defs (F := Ideal)) (Cert.SparseKernelIdeal.threads (F := Ideal)) ⟨m, fun _ => 0, ρ⟩ (fun r => ∀ c : Dev nD,
      r.2.mem (rLoc c) = mean (argX m c) (argCu m c) ∧ r.2.mem (xLoc c) = m (xLoc c) ∧ r.2.mem (cuLoc c) = m (cuLoc c)) :=
  (θ_run Cert.SparseKernelIdeal.defs _ _).mono (fun _ h c => ⟨(h.1 c).1.trans (outv_eq m c (hs c)), (h.1 c).2.1, (h.1 c).2.2⟩)
    (run_main (F := Ideal) m ρ fun c b => rng_of_le _ (le_of_segs (hs c)) b)

end Cert.SparseKernelIdeal.Pool

end
-- ==== Proof.lean ====
/-
  The claims of `Cert.Claim`, put together: the two programs' frames, and that each ends with the reference's means.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SparseKernel
public import proofs.«01_k».proof.Proof.Gen.SparseKernelIdeal
public import proofs.«01_k».proof.Proof.Gen.SparseKernelIdeal.Skeleton
public import proofs.«01_k».proof.Proof.Gen.Pre_positions
public import proofs.«01_k».proof.Proof.Gen.Pre_segments
public import proofs.«01_k».proof.Proof.Gen.ReferenceIdeal.Run
public import proofs.«01_k».proof.Proof.Ref
public import proofs.«01_k».proof.Proof.Value
public import proofs.«01_k».proof.Proof.SparseValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, and declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun _ h => ⟨fun c => ⟨(h c).2.1, (h c).2.2⟩, sem_eq_zero_of_no_sems rfl _⟩)
    (Cert.ReferenceIdeal.Value.run (F := Ideal) m g)

/-- The TensorCore kernel and the reference end with the same means. -/
theorem algebraic_tc : Cert.algebraic_KernelIdeal_ReferenceIdeal_pre_segments := fun m g m' g' hpre hargs =>
  have hs : ∀ c, Cert.Spec.Segs (Cert.KernelIdeal.Value.argX m c) (Cert.KernelIdeal.Value.argCu m c) :=
    fun c => Cert.Spec.segs_of_pre (hpre c)
  ⟨fun c => Cert.Spec.mean (Cert.KernelIdeal.Value.argX m c) (Cert.KernelIdeal.Value.argCu m c),
    Cert.KernelIdeal.Value.run m g hs,
    (θ_run Cert.ReferenceIdeal.defs _ _).mono (fun _ h c => by
      refine ⟨(h c).1.trans ?_, (h c).2.1, (h c).2.2⟩
      rw [(hargs c).1, (hargs c).2]
      exact Cert.ReferenceIdeal.Value.result_eq (hs c))
      (Cert.ReferenceIdeal.Value.run (F := Ideal) m' g')⟩

/-- The program with the SparseCore kernel runs wherever the bounds are positions, at any reading of the floats. -/
theorem frame_sc {F : FTy → Type} [FloatOps F] [∀ e, Nonempty (Elt F e)]
    (m : (ℓ : Loc Cert.SparseKernelIdeal.nD Cert.SparseKernelIdeal.τ Cert.SparseKernelIdeal.sig) → Buf (Elt F) ℓ)
    (g : Dev Cert.SparseKernelIdeal.nD → PrngReg)
    (hB : ∀ c i, (m (Cert.SparseKernelIdeal.Pool.cuLoc c) i : BitVec 32).toNat ≤ 32768) :
    θ_run (Cert.SparseKernelIdeal.defs (F := F)) (Cert.SparseKernelIdeal.threads (F := F)) ⟨m, fun _ => 0, g⟩ (fun r => (∀ c : Dev Cert.SparseKernelIdeal.nD,
      r.2.mem ((c.tc : Thread Cert.SparseKernelIdeal.nD Cert.SparseKernelIdeal.τ).loc Cert.SparseKernelIdeal.main_arg0) = m ((c.tc : Thread Cert.SparseKernelIdeal.nD Cert.SparseKernelIdeal.τ).loc Cert.SparseKernelIdeal.main_arg0)
      ∧ r.2.mem ((c.tc : Thread Cert.SparseKernelIdeal.nD Cert.SparseKernelIdeal.τ).loc Cert.SparseKernelIdeal.main_arg1) = m ((c.tc : Thread Cert.SparseKernelIdeal.nD Cert.SparseKernelIdeal.τ).loc Cert.SparseKernelIdeal.main_arg1))
      ∧ r.2.sem = fun _ => 0) :=
  (θ_run Cert.SparseKernelIdeal.defs _ _).mono (fun _ h => ⟨fun c => (h.1 c).2, h.2⟩)
    (Cert.SparseKernelIdeal.Pool.run_main (F := F) m g fun c b => Cert.SparseKernelIdeal.Pool.rng_of_le _ (hB c) b)

/-- The SparseCore kernel and the reference end with the same means. -/
theorem algebraic_sc : Cert.algebraic_SparseKernelIdeal_ReferenceIdeal_pre_segments := fun m g m' g' hpre hargs =>
  have hs : ∀ c, Cert.Spec.Segs (Cert.SparseKernelIdeal.Pool.argX m c) (Cert.SparseKernelIdeal.Pool.argCu m c) :=
    fun c => Cert.Spec.segs_of_pre (hpre c)
  ⟨fun c => Cert.Spec.mean (Cert.SparseKernelIdeal.Pool.argX m c) (Cert.SparseKernelIdeal.Pool.argCu m c),
    Cert.SparseKernelIdeal.Pool.run_mean m g hs,
    (θ_run Cert.ReferenceIdeal.defs _ _).mono (fun _ h c => by
      refine ⟨(h c).1.trans ?_, (h c).2.1, (h c).2.2⟩
      rw [(hargs c).1, (hargs c).2]
      exact Cert.ReferenceIdeal.Value.result_eq (hs c))
      (Cert.ReferenceIdeal.Value.run (F := Ideal) m' g')⟩

/-- The program as it is and the program for real numbers have the same text, so the first runs as the second does. -/
theorem frame_sparse : Cert.quiescent_SparseKernel := fun m g hpre =>
  (θ_run Cert.SparseKernelIdeal.defs _ _).mono (fun _ h => h)
    (frame_sc (F := Bits) m g fun c i => Cert.SparseKernelIdeal.Pool.le_of_positions (F := Bits) _ _ (hpre c) i)

theorem claim : Cert.Claim := ⟨Cert.Kernel.Gen.facts, Cert.KernelIdeal.Gen.facts, Cert.SparseKernel.Gen.facts, Cert.SparseKernelIdeal.Gen.facts,
  Cert.ReferenceIdeal.Gen.facts, Cert.Pre_segments.Gen.facts, Cert.Pre_positions.Gen.facts,
  fun m ρ _ => Cert.Kernel.Gen.frame m ρ trivial,
  fun m ρ _ => Cert.KernelIdeal.Gen.frame m ρ trivial,
  fun m ρ _ => Cert.KernelIdeal.Gen.frame m ρ trivial,
  frame_sparse,
  fun m ρ hpre => frame_sc (F := Ideal) m ρ fun c i => Cert.SparseKernelIdeal.Pool.le_of_positions (F := Ideal) _ _ (hpre c) i,
  fun m ρ hpre => frame_sc (F := Ideal) m ρ fun c i => Cert.SparseKernelIdeal.Pool.le_of_segs (Cert.Spec.segs_of_pre (hpre c)) i,
  fun m ρ _ => frame_ref m ρ,
  fun m ρ _ => frame_ref m ρ,
  trivial,
  trivial,
  algebraic_tc,
  algebraic_sc⟩

end Cert.Proof

end
